-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v1_0)) (v4 : (c : Dev Cert.KernelIdeal.nD) → Buf (Elt Ideal) ((c.tc : Thread Cert.KernelIdeal.nD Cert.KernelIdeal.τ).loc Cert.KernelIdeal.main_v4)) (v5 : (c : Dev Cert.KernelIdeal.nD) → Buf (Elt Ideal) ((c.tc : Thread Cert.KernelIdeal.nD Cert.KernelIdeal.τ).loc Cert.KernelIdeal.main_v2_0)) (v6 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_v2_0) = v5 c
          ∧ r.2.mem ((c.tc : Thread Cert.KernelIdeal.nD Cert.KernelIdeal.τ).loc Cert.KernelIdeal.main_v5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Reference (hReference := hReference)
    ∧ preserves_Kernel_KernelIdeal
    ∧ preserves_Reference_ReferenceIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096x256 : Shape := ⟨3, ![8, 4096, 256]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4096x256 : S_.BroadcastsInDim S8x4096x256 (![] : Fin 0 → Fin S8x4096x256.rank)
  reducesTo_S8x4096x256_S_d0_1_2 : S8x4096x256.ReducesTo [0, 1, 2] S_

variable [Facts]

def fn {F : FTy → Type} [FloatOps F] (main_arg0 : FVec F S8x4096x1024 .bf16) (main_arg1 : FVec F S8x4096x256 .bf16) (main_arg2 : FVec F S8x4096x256 .bf16) : IVec S_ 1 :=
  let main_v0 : FVec F S8x4096x1024 .bf16 := Host.absf main_arg0
  let main_cst : FVec F S_ .bf16 := constant S_ .bf16 0x7F7F#16
  let main_v1 : FVec F S8x4096x1024 .bf16 := broadcastInDim S8x4096x1024 ![] bcast_S_S8x4096x1024 main_cst
  let main_v2 : IVec S8x4096x1024 1 := cmpf .ole main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x256 .bf16 := Host.absf main_arg1
  let main_cst_0 : FVec F S_ .bf16 := constant S_ .bf16 0x7F7F#16
  let main_v5 : FVec F S8x4096x256 .bf16 := broadcastInDim S8x4096x256 ![] bcast_S_S8x4096x256 main_cst_0
  let main_v6 : IVec S8x4096x256 1 := cmpf .ole main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  let main_v9 : FVec F S8x4096x256 .bf16 := Host.absf main_arg2
  let main_cst_2 : FVec F S_ .bf16 := constant S_ .bf16 0x7F7F#16
  let main_v10 : FVec F S8x4096x256 .bf16 := broadcastInDim S8x4096x256 ![] bcast_S_S8x4096x256 main_cst_2
  let main_v11 : IVec S8x4096x256 1 := cmpf .ole main_v9 main_v10
  let main_c_3 : IVec S_ 1 := constantI S_ 1 1#1
  let main_v12 : IVec S_ 1 := (fun x v => Host.reduce IntOp.andi x v reducesTo_S8x4096x256_S_d0_1_2 h_S_) main_v11 main_c_3
  let main_v13 : IVec S_ 1 := andi main_v8 main_v12
  main_v13
-- ==== Kernel.lean ====
abbrev S8x4096x1024 : Shape := ⟨3, ![8, 4096, 1024]⟩
abbrev S8x4096x256 : Shape := ⟨3, ![8, 4096, 256]⟩
abbrev S8x32x1024 : Shape := ⟨3, ![8, 32, 1024]⟩
abbrev S1x1024x1024 : Shape := ⟨3, ![1, 1024, 1024]⟩
abbrev S1x8x1024 : Shape := ⟨3, ![1, 8, 1024]⟩
abbrev S1024x1024 : Shape := ⟨2, ![1024, 1024]⟩
abbrev S8x128x1024 : Shape := ⟨3, ![8, 128, 1024]⟩
abbrev S8x1024 : Shape := ⟨2, ![8, 1024]⟩
abbrev S8x1x1024 : Shape := ⟨3, ![8, 1, 1024]⟩
abbrev S8x32x256 : Shape := ⟨3, ![8, 32, 256]⟩
abbrev S1x1024x256 : Shape := ⟨3, ![1, 1024, 256]⟩
abbrev S1x8x256 : Shape := ⟨3, ![1, 8, 256]⟩
abbrev S1024x256 : Shape := ⟨2, ![1024, 256]⟩
abbrev S8x128x256 : Shape := ⟨3, ![8, 128, 256]⟩
abbrev S8x256 : Shape := ⟨2, ![8, 256]⟩
abbrev S8x1x256 : Shape := ⟨3, ![8, 1, 256]⟩
abbrev S8x256x4096 : Shape := ⟨3, ![8, 256, 4096]⟩
abbrev S1x256x1024 : Shape := ⟨3, ![1, 256, 1024]⟩
abbrev S256x1024 : Shape := ⟨2, ![256, 1024]⟩
abbrev S8x32x16 : Shape := ⟨3, ![8, 32, 16]⟩
abbrev S8x32x4 : Shape := ⟨3, ![8, 32, 4]⟩
abbrev S8x32x16x1 : Shape := ⟨4, ![8, 32, 16, 1]⟩
abbrev S8x32x16x128 : Shape := ⟨4, ![8, 32, 16, 128]⟩
abbrev S8x32x4x1x512 : Shape := ⟨5, ![8, 32, 4, 1, 512]⟩
abbrev S8x4x32 : Shape := ⟨3, ![8, 4, 32]⟩
abbrev S8x4x32x1 : Shape := ⟨4, ![8, 4, 32, 1]⟩
abbrev S8x4x32x128 : Shape := ⟨4, ![8, 4, 32, 128]⟩
abbrev S1x128x256 : Shape := ⟨3, ![1, 128, 256]⟩
abbrev S1x4096x128 : Shape := ⟨3, ![1, 4096, 128]⟩
abbrev S1x64x4096 : Shape := ⟨3, ![1, 64, 4096]⟩
abbrev S1x1x1x1x512 : Shape := ⟨5, ![1, 1, 1, 1, 512]⟩
abbrev S1x1x32x128 : Shape := ⟨4, ![1, 1, 32, 128]⟩
abbrev S4096x512 : Shape := ⟨2, ![4096, 512]⟩
abbrev S32x512 : Shape := ⟨2, ![32, 512]⟩
abbrev S128x256 : Shape := ⟨2, ![128, 256]⟩
abbrev S128x128 : Shape := ⟨2, ![128, 128]⟩
abbrev S512x128 : Shape := ⟨2, ![512, 128]⟩
abbrev S1x512x128 : Shape := ⟨3, ![1, 512, 128]⟩
abbrev S512x512 : Shape := ⟨2, ![512, 512]⟩
abbrev S4x128x512 : Shape := ⟨3, ![4, 128, 512]⟩
abbrev S4x512 : Shape := ⟨2, ![4, 512]⟩
abbrev S32x128 : Shape := ⟨2, ![32, 128]⟩
abbrev S1x512 : Shape := ⟨2, ![1, 512]⟩
abbrev S512 : Shape := ⟨1, ![512]⟩
abbrev S64x512 : Shape := ⟨2, ![64, 512]⟩
abbrev S8x512 : Shape := ⟨2, ![8, 512]⟩
abbrev S128x512 : Shape := ⟨2, ![128, 512]⟩
abbrev S16x8x512 : Shape := ⟨3, ![16, 8, 512]⟩
abbrev S1x64x128 : Shape := ⟨3, ![1, 64, 128]⟩
abbrev S64x128 : Shape := ⟨2, ![64, 128]⟩
abbrev S1x128x128 : Shape := ⟨3, ![1, 128, 128]⟩

abbrev nBuf : Space → Nat
  | .hbm => 23
  | .vmem => 40
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x256, .bf16⟩
  | .hbm, ⟨3, _⟩ => ⟨S8x4096x1024, .fp8e4m3⟩
  | .hbm, ⟨4, _⟩ => ⟨S8x32x1024, .f32⟩
  | .hbm, ⟨5, _⟩ => ⟨S8x4096x256, .fp8e4m3⟩
  | .hbm, ⟨6, _⟩ => ⟨S8x32x256, .f32⟩
  | .hbm, ⟨7, _⟩ => ⟨S8x4096x256, .fp8e4m3⟩
  | .hbm, ⟨8, _⟩ => ⟨S8x32x256, .f32⟩
  | .hbm, ⟨9, _⟩ => ⟨S8x256x4096, .fp8e4m3⟩
  | .hbm, ⟨10, _⟩ => ⟨S8x32x16, .f32⟩
  | .hbm, ⟨11, _⟩ => ⟨S8x32x4, .f32⟩
  | .hbm, ⟨12, _⟩ => ⟨S8x32x4, .f32⟩
  | .hbm, ⟨13, _⟩ => ⟨S8x32x16x1, .f32⟩
  | .hbm, ⟨14, _⟩ => ⟨S8x32x16x128, .f32⟩
  | .hbm, ⟨15, _⟩ => ⟨S8x32x4x1x512, .f32⟩
  | .hbm, ⟨16, _⟩ => ⟨S8x4x32, .f32⟩
  | .hbm, ⟨17, _⟩ => ⟨S8x4x32x1, .f32⟩
  | .hbm, ⟨18, _⟩ => ⟨S8x4x32x128, .f32⟩
  | .hbm, ⟨19, _⟩ => ⟨S8x4x32, .f32⟩
  | .hbm, ⟨20, _⟩ => ⟨S8x4x32x1, .f32⟩
  | .hbm, ⟨21, _⟩ => ⟨S8x4x32x128, .f32⟩
  | .hbm, ⟨22, _⟩ => ⟨S8x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .fp8e4m3⟩
  | .local _ .vmem, ⟨3, _⟩ => ⟨S1x1024x1024, .fp8e4m3⟩
  | .local _ .vmem, ⟨4, _⟩ => ⟨S1x8x1024, .f32⟩
  | .local _ .vmem, ⟨5, _⟩ => ⟨S1x8x1024, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .fp8e4m3⟩
  | .local _ .vmem, ⟨9, _⟩ => ⟨S1x1024x256, .fp8e4m3⟩
  | .local _ .vmem, ⟨10, _⟩ => ⟨S1x8x256, .f32⟩
  | .local _ .vmem, ⟨11, _⟩ => ⟨S1x8x256, .f32⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .fp8e4m3⟩
  | .local _ .vmem, ⟨15, _⟩ => ⟨S1x1024x256, .fp8e4m3⟩
  | .local _ .vmem, ⟨16, _⟩ => ⟨S1x8x256, .f32⟩
  | .local _ .vmem, ⟨17, _⟩ => ⟨S1x8x256, .f32⟩
  | .local _ .vmem, ⟨18, _⟩ => ⟨S1x256x1024, .fp8e4m3⟩
  | .local _ .vmem, ⟨19, _⟩ => ⟨S1x256x1024, .fp8e4m3⟩
  | .local _ .vmem, ⟨20, _⟩ => ⟨S1x128x256, .fp8e4m3⟩
  | .local _ .vmem, ⟨21, _⟩ => ⟨S1x128x256, .fp8e4m3⟩
  | .local _ .vmem, ⟨22, _⟩ => ⟨S1x4096x128, .fp8e4m3⟩
  | .local _ .vmem, ⟨23, _⟩ => ⟨S1x4096x128, .fp8e4m3⟩
  | .local _ .vmem, ⟨24, _⟩ => ⟨S1x64x4096, .fp8e4m3⟩
  | .local _ .vmem, ⟨25, _⟩ => ⟨S1x64x4096, .fp8e4m3⟩
  | .local _ .vmem, ⟨26, _⟩ => ⟨S1x1x1x1x512, .f32⟩
  | .local _ .vmem, ⟨27, _⟩ => ⟨S1x1x1x1x512, .f32⟩
  | .local _ .vmem, ⟨28, _⟩ => ⟨S1x1x32x128, .f32⟩
  | .local _ .vmem, ⟨29, _⟩ => ⟨S1x1x32x128, .f32⟩
  | .local _ .vmem, ⟨30, _⟩ => ⟨S1x1x32x128, .f32⟩
  | .local _ .vmem, ⟨31, _⟩ => ⟨S1x1x32x128, .f32⟩
  | .local _ .vmem, ⟨32, _⟩ => ⟨S1x128x256, .bf16⟩
  | .local _ .vmem, ⟨33, _⟩ => ⟨S1x128x256, .bf16⟩
  | .local _ .vmem, ⟨34, _⟩ => ⟨S4096x512, .f32⟩
  | .local _ .vmem, ⟨35, _⟩ => ⟨S32x512, .f32⟩
  | .local _ .vmem, ⟨36, _⟩ => ⟨S32x512, .f32⟩
  | .local _ .vmem, ⟨37, _⟩ => ⟨S32x512, .f32⟩
  | .local _ .vmem, ⟨38, _⟩ => ⟨S32x512, .f32⟩
  | .local _ .vmem, ⟨39, _⟩ => ⟨S32x512, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc3_stg6_0 : Ref sig .tc := ⟨.vmem, 32, rfl⟩
abbrev cc3_stg6_1 : Ref sig .tc := ⟨.vmem, 33, rfl⟩
abbrev cc3_scratch0 : Ref sig .tc := ⟨.vmem, 34, rfl⟩
abbrev cc3_scratch1 : Ref sig .tc := ⟨.vmem, 35, rfl⟩
abbrev cc3_scratch2 : Ref sig .tc := ⟨.vmem, 36, rfl⟩
abbrev cc3_scratch3 : Ref sig .tc := ⟨.vmem, 37, rfl⟩
abbrev cc3_scratch4 : Ref sig .tc := ⟨.vmem, 38, rfl⟩
abbrev cc3_scratch5 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc3_sem6_0 : DmaSem sig := 32
abbrev cc3_sem6_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x256 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x1024 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![8, 4, 32], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_3 (i : grid3.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x128x256 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x4096x128 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x64x4096 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x1x1x1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x1x32x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1x1x32x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1x128x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S8x4096x1024 : Shape := ⟨3, ![8, 4096, 1024]⟩
abbrev S8x4096x256 : Shape := ⟨3, ![8, 4096, 256]⟩
abbrev S8x32x16 : Shape := ⟨3, ![8, 32, 16]⟩
abbrev S8x32x4 : Shape := ⟨3, ![8, 32, 4]⟩
abbrev S8x32x128x16x64 : Shape := ⟨5, ![8, 32, 128, 16, 64]⟩
abbrev S8x32x1x16x1 : Shape := ⟨5, ![8, 32, 1, 16, 1]⟩
abbrev S8x32x128x4x64 : Shape := ⟨5, ![8, 32, 128, 4, 64]⟩
abbrev S8x32x1x4x1 : Shape := ⟨5, ![8, 32, 1, 4, 1]⟩
abbrev S8x4096x4x4x64 : Shape := ⟨5, ![8, 4096, 4, 4, 64]⟩
abbrev S8x32x1x4x4 : Shape := ⟨5, ![8, 32, 1, 4, 4]⟩
abbrev S8x32x128x4x4 : Shape := ⟨5, ![8, 32, 128, 4, 4]⟩
abbrev S8x4096x4x4 : Shape := ⟨4, ![8, 4096, 4, 4]⟩
abbrev S8x4x4x4096 : Shape := ⟨4, ![8, 4, 4, 4096]⟩
abbrev S8x4x4x4096x1x1 : Shape := ⟨6, ![8, 4, 4, 4096, 1, 1]⟩
abbrev S8x4x32 : Shape := ⟨3, ![8, 4, 32]⟩
abbrev S8x4x1x1x32x1 : Shape := ⟨6, ![8, 4, 1, 1, 32, 1]⟩
abbrev S8x4x32x128x4096x4 : Shape := ⟨6, ![8, 4, 32, 128, 4096, 4]⟩
abbrev S8x4x4x4096x32x128 : Shape := ⟨6, ![8, 4, 4, 4096, 32, 128]⟩
abbrev S8x4x4x4096x32x1 : Shape := ⟨6, ![8, 4, 4, 4096, 32, 1]⟩
abbrev S8x4x4x4096x32 : Shape := ⟨5, ![8, 4, 4, 4096, 32]⟩
abbrev S8x4x32x64x4x4096 : Shape := ⟨6, ![8, 4, 32, 64, 4, 4096]⟩
abbrev S8x4x4x4096x32x64 : Shape := ⟨6, ![8, 4, 4, 4096, 32, 64]⟩
abbrev S8x4x4x4096x64 : Shape := ⟨5, ![8, 4, 4, 4096, 64]⟩
abbrev S8x4x4x4096x1 : Shape := ⟨5, ![8, 4, 4, 4096, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x256, .bf16⟩
  | .hbm, ⟨2, _⟩ => ⟨S8x4096x256, .bf16⟩
  | .hbm, ⟨3, _⟩ => ⟨S8x4096x1024, .bf16⟩
  | .hbm, ⟨4, _⟩ => ⟨S8x4096x1024, .fp8e4m3⟩
  | .hbm, ⟨5, _⟩ => ⟨S8x32x16, .f32⟩
  | .hbm, ⟨6, _⟩ => ⟨S8x4096x256, .fp8e4m3⟩
  | .hbm, ⟨7, _⟩ => ⟨S8x32x4, .f32⟩
  | .hbm, ⟨8, _⟩ => ⟨S8x4096x256, .fp8e4m3⟩
  | .hbm, ⟨9, _⟩ => ⟨S8x32x4, .f32⟩
  | .local _ .vmem, ⟨0, _⟩ => ⟨S8x4096x1024, .bf16⟩
  | .local _ .vmem, ⟨1, _⟩ => ⟨S8x4096x256, .bf16⟩
  | .local _ .vmem, ⟨2, _⟩ => ⟨S8x4096x256, .bf16⟩
  | .local _ .vmem, ⟨3, _⟩ => ⟨S8x4096x1024, .bf16⟩
  | .local _ .vmem, ⟨4, _⟩ => ⟨S8x4096x1024, .fp8e4m3⟩
  | .local _ .vmem, ⟨5, _⟩ => ⟨S8x32x16, .f32⟩
  | .local _ .vmem, ⟨6, _⟩ => ⟨S8x4096x256, .fp8e4m3⟩
  | .local _ .vmem, ⟨7, _⟩ => ⟨S8x32x4, .f32⟩
  | .local _ .vmem, ⟨8, _⟩ => ⟨S8x4096x256, .fp8e4m3⟩
  | .local _ .vmem, ⟨9, _⟩ => ⟨S8x32x4, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x256 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x32x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Exponent.lean ====
/- The scale exponent of a quantised group, as the kernel finds it (an eight-step search among the powers of two) and as
   the reference states it (one more than the floor of the base-two logarithm), and their equality on the groups whose
   largest magnitude is below two to the 128. -/
module

public import Idealize.ShloMosaic.Lib.Pointwise

@[expose] public section

set_option maxRecDepth 16384

noncomputable section

namespace Cert.Spec

open Idealize.ShloMosaic

/-- The nearest single-precision number to 1/448. -/
def c0 : EReal := Ideal.ofBits .f32 0x3B124925#32
/-- The least group maximum that gets a scale of its own. -/
def thr : EReal := Ideal.ofBits .f32 0x0D800000#32
/-- The largest code. -/
def hi : EReal := Ideal.ofBits .f32 0x43E00000#32
/-- The least code. -/
def lo : EReal := Ideal.ofBits .f32 0xC3E00000#32

/-- The reference's exponent of a group whose largest magnitude is `a`. -/
def fexp (a : EReal) : EReal :=
  if a < thr then 0 else Ideal.liftRound Int.floor (Ideal.div (Ideal.log (a * c0)) ((Real.log 2 : ℝ) : EReal)) + 1

/-- The power of two whose exponent is the word `e`. -/
def pow2 (e : BitVec 32) : EReal := Ideal.ofBits .f32 (IntOp.shli .vector (IntOp.addi e 127#32) 23#32)

/-- One step of the search. -/
def kstep (x : EReal) (t s : BitVec 32) : BitVec 32 :=
  if Ideal.ofBits .f32 (IntOp.shli .vector (IntOp.addi t s) 23#32) ≤ x then IntOp.addi t s else t

/-- The eight steps. -/
def biased (x : EReal) : BitVec 32 :=
  kstep x (kstep x (kstep x (kstep x (kstep x (kstep x (kstep x (kstep x 0#32 128#32) 64#32) 32#32) 16#32) 8#32) 4#32)
    2#32) 1#32

/-- The kernel's exponent of a group whose largest magnitude is `a`. -/
def kexp (a : EReal) : BitVec 32 := if a < thr then 0#32 else IntOp.subi (biased (a * c0)) 126#32

theorem pow2_fields : ∀ T : Fin 255, 1 ≤ T.val →
    (IntOp.shli .vector (BitVec.ofNat 32 T.val) 23#32).extractLsb' 31 1 = 0#1 ∧
    ((IntOp.shli .vector (BitVec.ofNat 32 T.val) 23#32).extractLsb' 23 8).toNat = T.val ∧
    ((IntOp.shli .vector (BitVec.ofNat 32 T.val) 23#32).extractLsb' 0 23).toNat = 0 := by
  decide +kernel

/-- The single-precision word of biased exponent `T` and zero fraction denotes `2 ^ (T - 127)`. -/
theorem ofBits_pow2 (T : ℕ) (h1 : 1 ≤ T) (h2 : T ≤ 254) :
    Ideal.ofBits .f32 (IntOp.shli .vector (BitVec.ofNat 32 T) 23#32) = (((2 : ℝ) ^ ((T : ℤ) - 127) : ℝ) : EReal) := by
  obtain ⟨ha, hb, hc⟩ := pow2_fields ⟨T, by omega⟩ h1
  simp only at ha hb hc
  simp only [Ideal.ofBits, Ideal.ieee]
  rw [hb, hc]
  have ha' : (IntOp.shli .vector (BitVec.ofNat 32 T) 23#32).extractLsb' (8 + 23) 1 = 0#1 := ha
  rw [ha', if_neg (by omega), if_neg (by omega)]
  refine congrArg (fun r : ℝ => (r : EReal)) ?_
  have hne : (0#1 == 1#1) = false := rfl
  have hz : ((T : ℤ) - (2 ^ (8 - 1) - 1) - ((23 : ℕ) : ℤ)) = ((T : ℤ) - 127) + (-23) := by norm_num; ring
  have h23 : (((2 ^ 23 + 0 : ℕ) : ℝ)) = (2 : ℝ) ^ (23 : ℤ) := by norm_num
  rw [hz, h23, zpow_add₀ (by norm_num), hne, if_neg (by simp), one_mul, mul_comm, mul_assoc, ← zpow_add₀ (by norm_num)]
  simp

theorem ofBits_255 : Ideal.ofBits .f32 (IntOp.shli .vector (BitVec.ofNat 32 255) 23#32) = ⊤ := by
  have : IntOp.shli .vector (BitVec.ofNat 32 255) 23#32 = 0x7F800000#32 := by decide
  rw [this]; simp [Ideal.ofBits, Ideal.ieee]

/-- Where the threshold of `u` lies against a real in the binade of `n`. -/
theorem thr_le_iff (r : ℝ) (n : ℕ) (hn1 : 1 ≤ n) (hn2 : n ≤ 254)
    (hlo : (2 : ℝ) ^ ((n : ℤ) - 127) ≤ r) (hhi : r < (2 : ℝ) ^ ((n : ℤ) + 1 - 127)) (u : ℕ) (hu1 : 1 ≤ u) (hu2 : u ≤ 255) :
    Ideal.ofBits .f32 (IntOp.shli .vector (BitVec.ofNat 32 u) 23#32) ≤ (r : EReal) ↔ u ≤ n := by
  rcases Nat.lt_or_ge u 255 with h | h
  · rw [ofBits_pow2 u hu1 (by omega), EReal.coe_le_coe_iff]
    constructor
    · intro hle
      by_contra hc
      have h3 : (2 : ℝ) ^ ((n : ℤ) + 1 - 127) ≤ (2 : ℝ) ^ ((u : ℤ) - 127) := zpow_le_zpow_right₀ (by norm_num) (by omega)
      linarith
    · intro hle
      have h3 : (2 : ℝ) ^ ((u : ℤ) - 127) ≤ (2 : ℝ) ^ ((n : ℤ) - 127) := zpow_le_zpow_right₀ (by norm_num) (by omega)
      linarith
  · have : u = 255 := by omega
    subst this
    rw [ofBits_255]
    constructor
    · intro hle; exact absurd (top_le_iff.mp hle) (EReal.coe_ne_top r)
    · intro hle; omega

theorem kstep_spec (r : ℝ) (n : ℕ) (hn1 : 1 ≤ n) (hn2 : n ≤ 254)
    (hlo : (2 : ℝ) ^ ((n : ℤ) - 127) ≤ r) (hhi : r < (2 : ℝ) ^ ((n : ℤ) + 1 - 127))
    (t s : ℕ) (hs : 1 ≤ s) (h1 : t ≤ n) (h2 : n < t + 2 * s) (h3 : t + 2 * s ≤ 256) :
    ∃ t' : ℕ, kstep (r : EReal) (BitVec.ofNat 32 t) (BitVec.ofNat 32 s) = BitVec.ofNat 32 t' ∧ t' ≤ n ∧ n < t' + s ∧
      t' + s ≤ 256 := by
  have hadd : IntOp.addi (BitVec.ofNat 32 t) (BitVec.ofNat 32 s) = BitVec.ofNat 32 (t + s) := by
    show BitVec.ofNat 32 t + BitVec.ofNat 32 s = _
    rw [BitVec.ofNat_add]
  unfold kstep
  rw [hadd]
  by_cases h : t + s ≤ n
  · rw [if_pos ((thr_le_iff r n hn1 hn2 hlo hhi _ (by omega) (by omega)).mpr h)]
    exact ⟨t + s, rfl, h, by omega, by omega⟩
  · rw [if_neg (fun hc => h ((thr_le_iff r n hn1 hn2 hlo hhi _ (by omega) (by omega)).mp hc))]
    exact ⟨t, rfl, h1, by omega, by omega⟩

/-- The search finds the biased exponent of a real in the binade of `n`. -/
theorem biased_spec (r : ℝ) (n : ℕ) (hn1 : 1 ≤ n) (hn2 : n ≤ 254)
    (hlo : (2 : ℝ) ^ ((n : ℤ) - 127) ≤ r) (hhi : r < (2 : ℝ) ^ ((n : ℤ) + 1 - 127)) :
    biased (r : EReal) = BitVec.ofNat 32 n := by
  have st := kstep_spec r n hn1 hn2 hlo hhi
  obtain ⟨t1, e1, a1, b1, c1⟩ := st 0 128 (by omega) (by omega) (by omega) (by omega)
  obtain ⟨t2, e2, a2, b2, c2⟩ := st t1 64 (by omega) (by omega) (by omega) (by omega)
  obtain ⟨t3, e3, a3, b3, c3⟩ := st t2 32 (by omega) (by omega) (by omega) (by omega)
  obtain ⟨t4, e4, a4, b4, c4⟩ := st t3 16 (by omega) (by omega) (by omega) (by omega)
  obtain ⟨t5, e5, a5, b5, c5⟩ := st t4 8 (by omega) (by omega) (by omega) (by omega)
  obtain ⟨t6, e6, a6, b6, c6⟩ := st t5 4 (by omega) (by omega) (by omega) (by omega)
  obtain ⟨t7, e7, a7, b7, c7⟩ := st t6 2 (by omega) (by omega) (by omega) (by omega)
  obtain ⟨t8, e8, a8, b8, c8⟩ := st t7 1 (by omega) (by omega) (by omega) (by omega)
  unfold biased
  rw [e1, e2, e3, e4, e5, e6, e7, e8, show t8 = n by omega]

theorem thr_eq : thr = (((2 : ℝ) ^ (-100 : ℤ) : ℝ) : EReal) := by
  have := ofBits_pow2 27 (by omega) (by omega)
  have h : IntOp.shli .vector (BitVec.ofNat 32 27) 23#32 = 0x0D800000#32 := by decide
  rw [h] at this
  rw [thr, this]; norm_num

theorem c0_eq : c0 = (((9586981 : ℝ) * (2 : ℝ) ^ (-32 : ℤ) : ℝ) : EReal) := by
  simp [c0, Ideal.ofBits, Ideal.ieee, -EReal.coe_mul]

theorem hi_eq : hi = ((448 : ℝ) : EReal) := by
  simp [hi, Ideal.ofBits, Ideal.ieee, -EReal.coe_mul]; norm_num

theorem lo_eq : lo = ((-448 : ℝ) : EReal) := by
  simp [lo, Ideal.ofBits, Ideal.ieee, -EReal.coe_mul]; norm_num

/-- The exponent of a group below `2 ^ 128` is one integer, which the kernel's word and the reference's number both are. -/
theorem exp_int (a : EReal) (ha : a < (((2 : ℝ) ^ (128 : ℤ) : ℝ) : EReal)) :
    ∃ z : ℤ, -126 ≤ z ∧ z ≤ 126 ∧ kexp a = BitVec.ofInt 32 z ∧ fexp a = ((z : ℝ) : EReal) := by
  by_cases h : a < thr
  · exact ⟨0, by omega, by omega, by rw [kexp, if_pos h]; rfl, by rw [fexp, if_pos h]; simp⟩
  · obtain ⟨r, rfl⟩ : ∃ r : ℝ, a = (r : EReal) := by
      induction a using EReal.rec with
      | bot => exact absurd (by rw [thr_eq]; exact EReal.bot_lt_coe _) h
      | coe r => exact ⟨r, rfl⟩
      | top => exact absurd ha (by simp)
    rw [EReal.coe_lt_coe_iff] at ha
    have h' : (2 : ℝ) ^ (-100 : ℤ) ≤ r := by
      rw [thr_eq, EReal.coe_lt_coe_iff] at h; exact not_lt.mp h
    have hr0 : 0 < r := lt_of_lt_of_le (by positivity) h'
    set c : ℝ := (9586981 : ℝ) * (2 : ℝ) ^ (-32 : ℤ) with hc
    have hc1 : (2 : ℝ) ^ (-9 : ℤ) ≤ c := by rw [hc]; norm_num
    have hc2 : c ≤ (2 : ℝ) ^ (-8 : ℤ) := by rw [hc]; norm_num
    have hcpos : 0 < c := lt_of_lt_of_le (by positivity) hc1
    set x : ℝ := r * c with hx
    have hx0 : 0 < x := mul_pos hr0 hcpos
    have hxlo : (2 : ℝ) ^ (-109 : ℤ) ≤ x := by
      calc (2 : ℝ) ^ (-109 : ℤ) = (2 : ℝ) ^ (-100 : ℤ) * (2 : ℝ) ^ (-9 : ℤ) := by
            rw [← zpow_add₀ (by norm_num)]; norm_num
        _ ≤ x := mul_le_mul h' hc1 (by positivity) hr0.le
    have hxhi : x < (2 : ℝ) ^ (120 : ℤ) := by
      calc x < (2 : ℝ) ^ (128 : ℤ) * c := mul_lt_mul_of_pos_right ha hcpos
        _ ≤ (2 : ℝ) ^ (128 : ℤ) * (2 : ℝ) ^ (-8 : ℤ) := mul_le_mul_of_nonneg_left hc2 (by positivity)
        _ = (2 : ℝ) ^ (120 : ℤ) := by rw [← zpow_add₀ (by norm_num)]; norm_num
    set z : ℤ := ⌊Real.log x / Real.log 2⌋ with hz
    have hl2 : 0 < Real.log 2 := Real.log_pos (by norm_num)
    have hpow : ∀ k : ℤ, (2 : ℝ) ^ k = Real.exp (k * Real.log 2) := fun k => by
      rw [mul_comm, Real.exp_mul, Real.exp_log (by norm_num), Real.rpow_intCast]
    have key1 : (2 : ℝ) ^ z ≤ x := by
      rw [hpow, ← Real.le_log_iff_exp_le hx0]
      exact (le_div_iff₀ hl2).mp (Int.floor_le _)
    have key2 : x < (2 : ℝ) ^ (z + 1) := by
      rw [hpow, ← Real.log_lt_iff_lt_exp hx0]
      have := Int.lt_floor_add_one (Real.log x / Real.log 2)
      push_cast
      exact (div_lt_iff₀ hl2).mp this
    have hz1 : -109 ≤ z := by
      by_contra hcon
      have : (2 : ℝ) ^ (z + 1) ≤ (2 : ℝ) ^ (-109 : ℤ) := zpow_le_zpow_right₀ (by norm_num) (by omega)
      linarith
    have hz2 : z ≤ 119 := by
      by_contra hcon
      have : (2 : ℝ) ^ (120 : ℤ) ≤ (2 : ℝ) ^ z := zpow_le_zpow_right₀ (by norm_num) (by omega)
      linarith
    have hxc : (r : EReal) * c0 = (x : EReal) := by rw [c0_eq, ← hc, ← EReal.coe_mul]
    obtain ⟨n, hn⟩ : ∃ n : ℕ, z + 127 = (n : ℤ) := ⟨(z + 127).toNat, by omega⟩
    refine ⟨z + 1, by omega, by omega, ?_, ?_⟩
    · rw [kexp, if_neg h, hxc, biased_spec x n (by omega) (by omega) (by rw [← hn]; simpa using key1)
        (by rw [← hn]; convert key2 using 2; ring)]
      show BitVec.ofNat 32 n - 126#32 = _
      have : z + 1 = (n : ℤ) - 126 := by omega
      rw [this]
      rw [sub_eq_add_neg, BitVec.ofInt_add, BitVec.sub_eq_add_neg]
      rfl
    · rw [fexp, if_neg h, hxc, Ideal.log_coe, if_neg (not_le.mpr hx0), Ideal.div_coe hl2.ne', ← EReal.coe_mul,
        mul_one_div, Ideal.liftRound_coe, ← hz]
      rw [← EReal.coe_one, ← EReal.coe_add]
      push_cast; rfl

theorem pow2_int (z : ℤ) (h1 : -126 ≤ z) (h2 : z ≤ 126) : pow2 (BitVec.ofInt 32 z) = (((2 : ℝ) ^ z : ℝ) : EReal) := by
  obtain ⟨n, hn⟩ : ∃ n : ℕ, z + 127 = (n : ℤ) := ⟨(z + 127).toNat, by omega⟩
  have : IntOp.addi (BitVec.ofInt 32 z) 127#32 = BitVec.ofNat 32 n := by
    show BitVec.ofInt 32 z + 127#32 = _
    have h3 : BitVec.ofNat 32 n = BitVec.ofInt 32 (n : ℤ) := rfl
    rw [h3, ← hn, BitVec.ofInt_add]; rfl
  rw [pow2, this, ofBits_pow2 n (by omega) (by omega)]
  congr 2; omega

theorem exp2_int (z : ℤ) : Ideal.exp2 ((z : ℝ) : EReal) = (((2 : ℝ) ^ z : ℝ) : EReal) := by
  rw [Ideal.exp2_coe]; congr 1; exact Real.rpow_intCast 2 z

/-- The bound on a group's largest magnitude under which the two exponents agree. -/
def Small (a : EReal) : Prop := a < (((2 : ℝ) ^ (128 : ℤ) : ℝ) : EReal)

/-- The scale of a group whose largest magnitude is `a`, and what the group is multiplied by. -/
def scale (a : EReal) : EReal := Ideal.exp2 (fexp a)
def inv (a : EReal) : EReal := Ideal.exp2 (0 - fexp a)

theorem pow2_kexp (a : EReal) (ha : Small a) : pow2 (kexp a) = scale a := by
  obtain ⟨z, h1, h2, hk, hf⟩ := exp_int a ha
  rw [hk, scale, hf, pow2_int z h1 h2, exp2_int]

theorem pow2_neg_kexp (a : EReal) (ha : Small a) : pow2 (IntOp.subi 0#32 (kexp a)) = inv a := by
  obtain ⟨z, h1, h2, hk, hf⟩ := exp_int a ha
  have : IntOp.subi 0#32 (BitVec.ofInt 32 z) = BitVec.ofInt 32 (-z) := by
    show 0#32 - _ = _
    rw [BitVec.ofInt_neg]; simp
  rw [hk, this, inv, hf, pow2_int (-z) (by omega) (by omega), zero_sub, ← EReal.coe_neg, ← Int.cast_neg, exp2_int]

theorem sitofp_kexp (a : EReal) (ha : Small a) : (((kexp a).toInt : ℝ) : EReal) = fexp a := by
  obtain ⟨z, h1, h2, hk, hf⟩ := exp_int a ha
  rw [hk, hf, BitVec.toInt_ofInt]
  congr 2
  rw [Int.bmod_eq_of_le (by norm_num; omega) (by norm_num; omega)]

/-- The exponent, the scale and its inverse are an integer and its powers of two. -/
theorem fexp_cases (a : EReal) (ha : Small a) : ∃ z : ℤ, fexp a = ((z : ℝ) : EReal) ∧
    scale a = (((2 : ℝ) ^ z : ℝ) : EReal) ∧ inv a = (((2 : ℝ) ^ (-z) : ℝ) : EReal) := by
  obtain ⟨z, h1, h2, hk, hf⟩ := exp_int a ha
  exact ⟨z, hf, by rw [scale, hf, exp2_int], by
    rw [inv, hf, zero_sub, ← EReal.coe_neg, ← Int.cast_neg, exp2_int]⟩

/-- A value as the kernel's code. -/
def kcode (x a : EReal) : EReal := min hi (max lo (x * pow2 (IntOp.subi 0#32 (kexp a))))

/-! The kernel's exponent over a vector. -/

/-- One step of the search, at every element. -/
def kstepV {s : Shape} (x : FVec Ideal s .f32) (t : IVec s 32) (u : BitVec 32) : IVec s 32 :=
  select (cmpf .oge x (bitcastToFloat .f32 (shli (addi t (broadcast s u)) (broadcast s 23#32)))) (addi t (broadcast s u)) t

/-- The kernel's exponent, at every element. -/
def expoV {s : Shape} (a : FVec Ideal s .f32) : IVec s 32 :=
  select (cmpf .olt a (broadcast s (Scalar.ofBits (F := Ideal) .f32 0x0D800000#32))) (broadcast s 0#32)
    (subi (let x := mulf a (broadcast s (Scalar.ofBits (F := Ideal) .f32 0x3B124925#32));
      kstepV x (kstepV x (kstepV x (kstepV x (kstepV x (kstepV x (kstepV x (kstepV x (broadcast s 0#32) 128#32) 64#32) 32#32)
        16#32) 8#32) 4#32) 2#32) 1#32) (broadcast s 126#32))

theorem kstepV_apply {s : Shape} (x : FVec Ideal s .f32) (t : IVec s 32) (u : BitVec 32) (i : s.Idx) :
    kstepV x t u i = kstep (x i) (t i) u := by
  pointwise [kstepV]
  rfl

theorem expoV_apply {s : Shape} (a : FVec Ideal s .f32) (i : s.Idx) : expoV a i = kexp (a i) := by
  pointwise [expoV]
  simp only [kstepV_apply]
  rfl

/-- The magnitude of a value. -/
def abs (x : EReal) : EReal := FloatOps.absf (F := Ideal) (φ := .f32) x

theorem ofBits_neg_inf : Ideal.ofBits .f32 0xFF800000#32 = ⊥ := by simp [Ideal.ofBits, Ideal.ieee]

/-- A value as its code. -/
def code (x a : EReal) : EReal := min hi (max lo (x * inv a))

end Cert.Spec

end
-- ==== Proof.GroupMax1024.lean ====
/- The largest magnitude of each head's group of a tile of 1024 tokens and 1024 channels: the kernel takes the maximum over the
   128 tokens of a block and then over the 64 lanes of a head by six exchanges between lanes. -/
module

public import proofs.«01_k».proof.Proof.Gen.KernelIdeal.Frame
public import proofs.«01_k».proof.Proof.Exponent
public import Idealize.ShloMosaic.Lib.Pointwise

@[expose] public section

set_option maxRecDepth 16384

noncomputable section

namespace Cert.KernelIdeal.Val

open Idealize.ShloMosaic Cert.KernelIdeal

/-- One exchange: every lane takes the larger of its own value and its partner's, `s` lanes away. -/
def stage1024 (s s' : BitVec 32) (x : FVec Ideal S8x1024 .f32) : FVec Ideal S8x1024 .f32 :=
  maximumf x (select (cmpi .eq (andi (iota .tc S8x1024 32 [1] Gen.iota_S8x1024_d1_w32) (broadcast S8x1024 s)) (broadcast S8x1024 0#32))
    (dynamicRotate 1 s' none x Gen.rotates_S8x1024_d1) (dynamicRotate 1 s none x Gen.rotates_S8x1024_d1))

/-- The maximum over the tokens of a block and the six exchanges. -/
def groupMax1024 (v3 : FVec Ideal S8x128x1024 .f32) : FVec Ideal S8x1024 .f32 :=
  (stage1024 32#32 992#32 (stage1024 16#32 1008#32 (stage1024 8#32 1016#32 (stage1024 4#32 1020#32 (stage1024 2#32 1022#32 (stage1024 1#32 1023#32 (multiReduction .maximumf [1] S8x1024 (absf v3) 0xFF800000#32 Gen.reduces_S8x128x1024_S8x1024 (.inl rfl) rfl)))))))

/-- What lane `l` holds after some exchanges is the maximum over the lanes `i` with `i / w = l / w`. -/
def Holds1024 (w : ℕ) (f g : FVec Ideal S8x1024 .f32) : Prop :=
  ∀ (r : Fin 8) (l : Fin 1024) (z : EReal), g (ix2 r l) ≤ z ↔ ∀ i : Fin 1024, i.val / w = l.val / w → f (ix2 r i) ≤ z

theorem bit1024_1 : ∀ l : Fin 1024, (IntOp.cmpi .eq (IntOp.andi (BitVec.ofNat 32 l.val) 1#32) 0#32 = 1) ↔ (l.val / 1) % 2 = 0 := by
  decide +kernel

theorem stage1024_1 (f g : FVec Ideal S8x1024 .f32) (h : Holds1024 1 f g) : Holds1024 2 f (stage1024 1#32 1023#32 g) := by
  intro r l z
  have e : stage1024 1#32 1023#32 g (ix2 r l) = max (g (ix2 r l))
      (if (l.val / 1) % 2 = 0 then g (ix2 r ⟨(l.val + 1024 - 1023) % 1024, Nat.mod_lt _ (by norm_num)⟩)
        else g (ix2 r ⟨(l.val + 1024 - 1) % 1024, Nat.mod_lt _ (by norm_num)⟩)) := by
    pointwise [stage1024]
    simp only [Scalar.select, bit1024_1 l, Nat.div_one]
  rw [e, max_le_iff]
  have hl := l.isLt
  split
  · rw [h r l z, h r _ z]
    constructor
    · rintro ⟨h1, h2⟩ i hi
      by_cases hc : i.val / 1 = l.val / 1
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 1 = l.val / 1
      · exact h1 i hc
      · refine h2 i ?_
        have := i.isLt
        simp only
        omega
    · intro h1
      refine ⟨fun i hi => h1 i (by omega), fun i hi => h1 i ?_⟩
      simp only at hi
      omega

theorem bit1024_2 : ∀ l : Fin 1024, (IntOp.cmpi .eq (IntOp.andi (BitVec.ofNat 32 l.val) 2#32) 0#32 = 1) ↔ (l.val / 2) % 2 = 0 := by
  decide +kernel

theorem stage1024_2 (f g : FVec Ideal S8x1024 .f32) (h : Holds1024 2 f g) : Holds1024 4 f (stage1024 2#32 1022#32 g) := by
  intro r l z
  have e : stage1024 2#32 1022#32 g (ix2 r l) = max (g (ix2 r l))
      (if (l.val / 2) % 2 = 0 then g (ix2 r ⟨(l.val + 1024 - 1022) % 1024, Nat.mod_lt _ (by norm_num)⟩)
        else g (ix2 r ⟨(l.val + 1024 - 2) % 1024, Nat.mod_lt _ (by norm_num)⟩)) := by
    pointwise [stage1024]
    simp only [Scalar.select, bit1024_2 l, Nat.div_one]
  rw [e, max_le_iff]
  have hl := l.isLt
  split
  · rw [h r l z, h r _ z]
    constructor
    · rintro ⟨h1, h2⟩ i hi
      by_cases hc : i.val / 2 = l.val / 2
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 2 = l.val / 2
      · exact h1 i hc
      · refine h2 i ?_
        have := i.isLt
        simp only
        omega
    · intro h1
      refine ⟨fun i hi => h1 i (by omega), fun i hi => h1 i ?_⟩
      simp only at hi
      omega

theorem bit1024_4 : ∀ l : Fin 1024, (IntOp.cmpi .eq (IntOp.andi (BitVec.ofNat 32 l.val) 4#32) 0#32 = 1) ↔ (l.val / 4) % 2 = 0 := by
  decide +kernel

theorem stage1024_4 (f g : FVec Ideal S8x1024 .f32) (h : Holds1024 4 f g) : Holds1024 8 f (stage1024 4#32 1020#32 g) := by
  intro r l z
  have e : stage1024 4#32 1020#32 g (ix2 r l) = max (g (ix2 r l))
      (if (l.val / 4) % 2 = 0 then g (ix2 r ⟨(l.val + 1024 - 1020) % 1024, Nat.mod_lt _ (by norm_num)⟩)
        else g (ix2 r ⟨(l.val + 1024 - 4) % 1024, Nat.mod_lt _ (by norm_num)⟩)) := by
    pointwise [stage1024]
    simp only [Scalar.select, bit1024_4 l, Nat.div_one]
  rw [e, max_le_iff]
  have hl := l.isLt
  split
  · rw [h r l z, h r _ z]
    constructor
    · rintro ⟨h1, h2⟩ i hi
      by_cases hc : i.val / 4 = l.val / 4
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 4 = l.val / 4
      · exact h1 i hc
      · refine h2 i ?_
        have := i.isLt
        simp only
        omega
    · intro h1
      refine ⟨fun i hi => h1 i (by omega), fun i hi => h1 i ?_⟩
      simp only at hi
      omega

theorem bit1024_8 : ∀ l : Fin 1024, (IntOp.cmpi .eq (IntOp.andi (BitVec.ofNat 32 l.val) 8#32) 0#32 = 1) ↔ (l.val / 8) % 2 = 0 := by
  decide +kernel

theorem stage1024_8 (f g : FVec Ideal S8x1024 .f32) (h : Holds1024 8 f g) : Holds1024 16 f (stage1024 8#32 1016#32 g) := by
  intro r l z
  have e : stage1024 8#32 1016#32 g (ix2 r l) = max (g (ix2 r l))
      (if (l.val / 8) % 2 = 0 then g (ix2 r ⟨(l.val + 1024 - 1016) % 1024, Nat.mod_lt _ (by norm_num)⟩)
        else g (ix2 r ⟨(l.val + 1024 - 8) % 1024, Nat.mod_lt _ (by norm_num)⟩)) := by
    pointwise [stage1024]
    simp only [Scalar.select, bit1024_8 l, Nat.div_one]
  rw [e, max_le_iff]
  have hl := l.isLt
  split
  · rw [h r l z, h r _ z]
    constructor
    · rintro ⟨h1, h2⟩ i hi
      by_cases hc : i.val / 8 = l.val / 8
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 8 = l.val / 8
      · exact h1 i hc
      · refine h2 i ?_
        have := i.isLt
        simp only
        omega
    · intro h1
      refine ⟨fun i hi => h1 i (by omega), fun i hi => h1 i ?_⟩
      simp only at hi
      omega

theorem bit1024_16 : ∀ l : Fin 1024, (IntOp.cmpi .eq (IntOp.andi (BitVec.ofNat 32 l.val) 16#32) 0#32 = 1) ↔ (l.val / 16) % 2 = 0 := by
  decide +kernel

theorem stage1024_16 (f g : FVec Ideal S8x1024 .f32) (h : Holds1024 16 f g) : Holds1024 32 f (stage1024 16#32 1008#32 g) := by
  intro r l z
  have e : stage1024 16#32 1008#32 g (ix2 r l) = max (g (ix2 r l))
      (if (l.val / 16) % 2 = 0 then g (ix2 r ⟨(l.val + 1024 - 1008) % 1024, Nat.mod_lt _ (by norm_num)⟩)
        else g (ix2 r ⟨(l.val + 1024 - 16) % 1024, Nat.mod_lt _ (by norm_num)⟩)) := by
    pointwise [stage1024]
    simp only [Scalar.select, bit1024_16 l, Nat.div_one]
  rw [e, max_le_iff]
  have hl := l.isLt
  split
  · rw [h r l z, h r _ z]
    constructor
    · rintro ⟨h1, h2⟩ i hi
      by_cases hc : i.val / 16 = l.val / 16
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 16 = l.val / 16
      · exact h1 i hc
      · refine h2 i ?_
        have := i.isLt
        simp only
        omega
    · intro h1
      refine ⟨fun i hi => h1 i (by omega), fun i hi => h1 i ?_⟩
      simp only at hi
      omega

theorem bit1024_32 : ∀ l : Fin 1024, (IntOp.cmpi .eq (IntOp.andi (BitVec.ofNat 32 l.val) 32#32) 0#32 = 1) ↔ (l.val / 32) % 2 = 0 := by
  decide +kernel

theorem stage1024_32 (f g : FVec Ideal S8x1024 .f32) (h : Holds1024 32 f g) : Holds1024 64 f (stage1024 32#32 992#32 g) := by
  intro r l z
  have e : stage1024 32#32 992#32 g (ix2 r l) = max (g (ix2 r l))
      (if (l.val / 32) % 2 = 0 then g (ix2 r ⟨(l.val + 1024 - 992) % 1024, Nat.mod_lt _ (by norm_num)⟩)
        else g (ix2 r ⟨(l.val + 1024 - 32) % 1024, Nat.mod_lt _ (by norm_num)⟩)) := by
    pointwise [stage1024]
    simp only [Scalar.select, bit1024_32 l, Nat.div_one]
  rw [e, max_le_iff]
  have hl := l.isLt
  split
  · rw [h r l z, h r _ z]
    constructor
    · rintro ⟨h1, h2⟩ i hi
      by_cases hc : i.val / 32 = l.val / 32
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 32 = l.val / 32
      · exact h1 i hc
      · refine h2 i ?_
        have := i.isLt
        simp only
        omega
    · intro h1
      refine ⟨fun i hi => h1 i (by omega), fun i hi => h1 i ?_⟩
      simp only at hi
      omega

theorem holds1024_start (f : FVec Ideal S8x1024 .f32) : Holds1024 1 f f := by
  intro r l z
  constructor
  · intro h i hi
    rwa [show i = l from Fin.ext (by omega)]
  · intro h
    exact h l rfl

/-- The group maximum is below `z` exactly when every magnitude of the group is. -/
theorem groupMax1024_le (v3 : FVec Ideal S8x128x1024 .f32) (r : Fin 8) (l : Fin 1024) (z : EReal) :
    groupMax1024 v3 (ix2 r l) ≤ z ↔ ∀ (i : Fin 1024), i.val / 64 = l.val / 64 → ∀ k : Fin 128, Spec.abs (v3 (ix3 r k i)) ≤ z := by
  have h : Holds1024 64 _ (groupMax1024 v3) :=
    stage1024_32 _ _ (stage1024_16 _ _ (stage1024_8 _ _ (stage1024_4 _ _ (stage1024_2 _ _ (stage1024_1 _ _ (holds1024_start _))))))
  rw [h r l z]
  refine forall_congr' fun i => imp_congr_right fun _ => ?_
  have e : (multiReduction .maximumf [1] S8x1024 (absf v3) 0xFF800000#32 Gen.reduces_S8x128x1024_S8x1024 (.inl rfl) rfl) (ix2 r i) = Finset.univ.fold max (⊥ : EReal) fun k : Fin 128 => Spec.abs (v3 (ix3 r k i)) := by
    pointwise []
    rw [Spec.ofBits_neg_inf]
    rfl
  rw [e, Finset.fold_max_le]
  simp

end Cert.KernelIdeal.Val

end
-- ==== Proof.Block0.lean ====
/- What one step of the quantising call number 1 leaves in its output blocks, from its input block: the scales of the heads'
   groups of the eight token blocks, and the codes. -/
module

public import proofs.«01_k».proof.Proof.GroupMax1024
public import Idealize.ShloMosaic.Lib.Pipeline.ValueKit

@[expose] public section

set_option maxRecDepth 16384

noncomputable section

namespace Cert.KernelIdeal.Val

open Idealize.ShloMosaic Cert.KernelIdeal

/-- The largest magnitude of the group of token block `r` and head `g` of a tile. -/
def bmax0 (x0 : Vec Ideal S1x1024x1024 .bf16) (r : Fin 8) (g : Fin 16) : EReal :=
  Finset.univ.sup fun p : Fin 128 × Fin 64 =>
    Spec.abs (x0 (ix3 0 (⟨r.val * 128 + p.1.val, by omega⟩ : Fin 1024) (⟨g.val * 64 + p.2.val, by omega⟩ : Fin 1024)))

/-- The tile read as eight blocks of 128 tokens. -/
theorem rows0 (x0 : Vec Ideal S1x1024x1024 .bf16) (r : Fin 8) (k : Fin 128) (l : Fin 1024) :
    (Gen.k0_pay3 (View.ld x0 Gen.r0_0) : FVec Ideal S8x128x1024 .f32) (ix3 r k l) = x0 (ix3 0 (⟨r.val * 128 + k.val, by omega⟩ : Fin 1024) l) := by
  pointwise! [Gen.k0_pay3]

theorem amax0 (x0 : Vec Ideal S1x1024x1024 .bf16) (r : Fin 8) (l : Fin 1024) :
    (Gen.k0_pay15 x0 : FVec Ideal S8x1024 .f32) (ix2 r l) = bmax0 x0 r ⟨l.val / 64, by omega⟩ := by
  show groupMax1024 (Gen.k0_pay3 (View.ld x0 Gen.r0_0)) (ix2 r l) = _
  refine eq_of_forall_ge_iff fun z => ?_
  rw [groupMax1024_le, bmax0, Finset.sup_le_iff]
  constructor
  · rintro h ⟨k, d⟩ -
    have h1 := h ⟨l.val / 64 * 64 + d.val, by omega⟩ (by simp only; omega) k
    rw [rows0] at h1
    exact h1
  · intro h i hi k
    rw [rows0]
    have h1 := h (k, ⟨i.val % 64, Nat.mod_lt _ (by norm_num)⟩) (Finset.mem_univ _)
    have h2 : (⟨l.val / 64 * 64 + i.val % 64, by omega⟩ : Fin 1024) = i := Fin.ext (by simp only; omega)
    simp only [h2] at h1
    exact h1

/-- The kernel's exponent of each lane's group. -/
theorem expo0 (x0 : Vec Ideal S1x1024x1024 .bf16) (j : S8x1024.Idx) :
    (Gen.k0_pay10 (Gen.k0_pay15 x0) (Gen.k0_pay16 x0) (Gen.k0_pay17 x0) (Gen.k0_pay18 x0) : IVec S8x1024 32) j = Spec.kexp ((Gen.k0_pay15 x0 : FVec Ideal S8x1024 .f32) j) := by
  exact Spec.expoV_apply (Gen.k0_pay15 x0) j

theorem scales0 (x0 : Vec Ideal S1x1024x1024 .bf16) (r : Fin 8) (l : Fin 1024) :
    Gen.out0_2 x0 (ix3 0 r l) = Spec.pow2 (Spec.kexp (bmax0 x0 r ⟨l.val / 64, by omega⟩)) := by
  unfold Gen.out0_2
  frame_out
  have e1 : (Gen.k0_pay1 (Gen.k0_pay11 (Gen.k0_pay15 x0) (Gen.k0_pay16 x0) (Gen.k0_pay17 x0) (Gen.k0_pay18 x0)) : FVec Ideal S1x8x1024 .f32) (ix3 0 r l)
      = Spec.pow2 ((Gen.k0_pay10 (Gen.k0_pay15 x0) (Gen.k0_pay16 x0) (Gen.k0_pay17 x0) (Gen.k0_pay18 x0) : IVec S8x1024 32) (ix2 r l)) := by
    show (shapeCast S1x8x1024 (bitcastToFloat .f32 (shli (addi (Gen.k0_pay10 (Gen.k0_pay15 x0) (Gen.k0_pay16 x0) (Gen.k0_pay17 x0) (Gen.k0_pay18 x0) : IVec S8x1024 32) (broadcast S8x1024 127#32)) (broadcast S8x1024 23#32)))
      Gen.shapeCasts_S8x1024_S1x8x1024) (ix3 0 r l) = _
    generalize (Gen.k0_pay10 (Gen.k0_pay15 x0) (Gen.k0_pay16 x0) (Gen.k0_pay17 x0) (Gen.k0_pay18 x0) : IVec S8x1024 32) = e
    pointwise []
    rfl
  rw [e1, expo0, amax0]

/-- What a value becomes. -/
theorem codes0 (x0 : Vec Ideal S1x1024x1024 .bf16) (p : Fin 1024) (l : Fin 1024) :
    Gen.out0_1 x0 (ix3 0 p l) = Spec.kcode (x0 (ix3 0 p l)) (bmax0 x0 ⟨p.val / 128, by omega⟩ ⟨l.val / 64, by omega⟩) := by
  unfold Gen.out0_1
  frame_out
  have e1 : (Gen.k0_pay2 (Gen.k0_pay3 (View.ld x0 Gen.r0_0)) (Gen.k0_pay10 (Gen.k0_pay15 x0) (Gen.k0_pay16 x0) (Gen.k0_pay17 x0) (Gen.k0_pay18 x0)) : FVec Ideal S1x1024x1024 .fp8e4m3) (ix3 0 p l)
      = min Spec.hi (max Spec.lo ((Gen.k0_pay3 (View.ld x0 Gen.r0_0) : FVec Ideal S8x128x1024 .f32) (ix3 ⟨p.val / 128, by omega⟩ ⟨p.val % 128, Nat.mod_lt _ (by norm_num)⟩ l)
        * Spec.pow2 (IntOp.subi 0#32 ((Gen.k0_pay10 (Gen.k0_pay15 x0) (Gen.k0_pay16 x0) (Gen.k0_pay17 x0) (Gen.k0_pay18 x0) : IVec S8x1024 32) (ix2 ⟨p.val / 128, by omega⟩ l))))) := by
    generalize (Gen.k0_pay10 (Gen.k0_pay15 x0) (Gen.k0_pay16 x0) (Gen.k0_pay17 x0) (Gen.k0_pay18 x0) : IVec S8x1024 32) = e
    generalize (Gen.k0_pay3 (View.ld x0 Gen.r0_0) : FVec Ideal S8x128x1024 .f32) = v
    pointwise [Gen.k0_pay2]
    rfl
  rw [expo0, amax0, rows0, show (View.ld x0 Gen.r0_0 : Vec Ideal S1x1024x1024 .bf16) = x0 from View.ld_unit_zero (by decide) _ x0] at e1
  rw [e1]
  have h2 : (⟨p.val / 128 * 128 + p.val % 128, by omega⟩ : Fin 1024) = p := Fin.ext (by simp only; omega)
  simp only [h2]
  rfl

end Cert.KernelIdeal.Val

end
-- ==== Proof.Array0.lean ====
/- What the quantising call number 1 leaves in its output arrays, from its input array. -/
module

public import proofs.«01_k».proof.Proof.Block0

@[expose] public section

set_option maxRecDepth 16384

noncomputable section

namespace Cert.KernelIdeal.Val

open Idealize.ShloMosaic Idealize.ShloMosaic.TcCoe Idealize.ShloMosaic.Pipeline Idealize.SL Cert.KernelIdeal

/-- The largest magnitude of the group of sequence `b`, token block `n` and head `g`. -/
def top0 (X : FVec Ideal S8x4096x1024 .bf16) (b : Fin 8) (n : Fin 32) (g : Fin 16) : EReal :=
  Finset.univ.sup fun p : Fin 128 × Fin 64 =>
    Spec.abs (X (ix3 b (⟨n.val * 128 + p.1.val, by omega⟩ : Fin 4096) (⟨g.val * 64 + p.2.val, by omega⟩ : Fin 1024)))

theorem top0_congr (X : FVec Ideal S8x4096x1024 .bf16) {b b' : Fin 8} {n n' : Fin 32} {g g' : Fin 16} (hb : b = b') (hn : n = n') (hg : g = g') :
    top0 X b n g = top0 X b' n' g' := by
  subst hb hn hg
  rfl

variable (V : (c : Dev nD) → (b : Ref sig .tc) → Buf (Elt Ideal) ((c : Thread nD τ).loc b))

/-- The call's input array. -/
abbrev in0 (c : Dev nD) : FVec Ideal S8x4096x1024 .bf16 := V c (Pipeline.arrRef spec0 0)

theorem e0_0 : ∀ t : Fin cfg0.N, win0_0.index t = ![(grid0.coords t 0).val, (grid0.coords t 1).val, 0] :=
  (by decide +kernel : ∀ t : Fin grid0.N, _)

theorem e0_1 : ∀ t : Fin cfg0.N, win0_1.index t = ![(grid0.coords t 0).val, (grid0.coords t 1).val, 0] :=
  (by decide +kernel : ∀ t : Fin grid0.N, _)

theorem e0_2 : ∀ t : Fin cfg0.N, win0_2.index t = ![(grid0.coords t 0).val, (grid0.coords t 1).val, 0] :=
  (by decide +kernel : ∀ t : Fin grid0.N, _)

/-- The group maxima of a tile are those of the array. -/
theorem bmax0_eq (c : Dev nD) (t : Fin cfg0.N) (r : Fin 8) (g : Fin 16) :
    bmax0 (Gen.iblk0 V c 0 t) r g = top0 (in0 V c) (grid0.coords t 0) ⟨(grid0.coords t 1).val * 8 + r.val, by have := (grid0.coords t 1).isLt; change _ < 4 at this; omega⟩ g := by
  unfold bmax0 top0
  refine congrArg (Finset.sup _) (funext fun p => ?_)
  refine congrArg Spec.abs ?_
  blk_simp [Gen.iblk0]
  refine congrArg (in0 V c) ?_
  blk_ext [e0_0]

theorem codesA0 (c : Dev nD) : (Gen.dat0 V c).arrAt 1 cfg0.N = fun y : S8x4096x1024.Idx =>
    Spec.kcode (in0 V c y) (top0 (in0 V c) (y 0) ⟨(y 1).val / 128, by have := (y 1).isLt; change _ < 4096 at this; omega⟩ ⟨(y 2).val / 64, by have := (y 2).isLt; change _ < 1024 at this; omega⟩) := by
  refine (Gen.dat0 V c).arrAt_eq_of_covers 1 _ (by decide +kernel) fun t hf y => ?_
  blk_simp
  rw [Gen.after0_1]
  idx_vars y
  obtain rfl : y0 = 0 := Subsingleton.elim _ _
  rw [codes0, bmax0_eq]
  have h0 := (grid0.coords t 0).isLt
  have h1 := (grid0.coords t 1).isLt
  change _ < 8 at h0
  change _ < 4 at h1
  refine congr (congrArg Spec.kcode ?_) (top0_congr _ (Fin.ext ?_) (Fin.ext ?_) (Fin.ext ?_))
  · blk_simp [Gen.iblk0]
    refine congrArg (in0 V c) ?_
    blk_ext [e0_0, e0_1]
  · blk_simp [e0_1]
    try simp
  · blk_simp [e0_1]
    try simp
    try omega
  · blk_simp [e0_1]
    try simp

theorem scalesA0 (c : Dev nD) : (Gen.dat0 V c).arrAt 2 cfg0.N = fun y : S8x32x1024.Idx =>
    Spec.pow2 (Spec.kexp (top0 (in0 V c) (y 0) (y 1) ⟨(y 2).val / 64, by have := (y 2).isLt; change _ < 1024 at this; omega⟩)) := by
  refine (Gen.dat0 V c).arrAt_eq_of_covers 2 _ (by decide +kernel) fun t hf y => ?_
  blk_simp
  rw [Gen.after0_2]
  idx_vars y
  obtain rfl : y0 = 0 := Subsingleton.elim _ _
  rw [scales0, bmax0_eq]
  refine congrArg (fun e => Spec.pow2 (Spec.kexp e)) (top0_congr _ (Fin.ext ?_) (Fin.ext ?_) (Fin.ext ?_))
  · blk_simp [e0_2]
    try simp
  · blk_simp [e0_2]
    try simp
  · blk_simp [e0_2]
    try simp

end Cert.KernelIdeal.Val

end
-- ==== Proof.GroupMax256.lean ====
/- The largest magnitude of each head's group of a tile of 1024 tokens and 256 channels: the kernel takes the maximum over the
   128 tokens of a block and then over the 64 lanes of a head by six exchanges between lanes. -/
module

public import proofs.«01_k».proof.Proof.Gen.KernelIdeal.Frame
public import proofs.«01_k».proof.Proof.Exponent
public import Idealize.ShloMosaic.Lib.Pointwise

@[expose] public section

set_option maxRecDepth 16384

noncomputable section

namespace Cert.KernelIdeal.Val

open Idealize.ShloMosaic Cert.KernelIdeal

/-- One exchange: every lane takes the larger of its own value and its partner's, `s` lanes away. -/
def stage256 (s s' : BitVec 32) (x : FVec Ideal S8x256 .f32) : FVec Ideal S8x256 .f32 :=
  maximumf x (select (cmpi .eq (andi (iota .tc S8x256 32 [1] Gen.iota_S8x256_d1_w32) (broadcast S8x256 s)) (broadcast S8x256 0#32))
    (dynamicRotate 1 s' none x Gen.rotates_S8x256_d1) (dynamicRotate 1 s none x Gen.rotates_S8x256_d1))

/-- The maximum over the tokens of a block and the six exchanges. -/
def groupMax256 (v3 : FVec Ideal S8x128x256 .f32) : FVec Ideal S8x256 .f32 :=
  (stage256 32#32 224#32 (stage256 16#32 240#32 (stage256 8#32 248#32 (stage256 4#32 252#32 (stage256 2#32 254#32 (stage256 1#32 255#32 (multiReduction .maximumf [1] S8x256 (absf v3) 0xFF800000#32 Gen.reduces_S8x128x256_S8x256 (.inl rfl) rfl)))))))

/-- What lane `l` holds after some exchanges is the maximum over the lanes `i` with `i / w = l / w`. -/
def Holds256 (w : ℕ) (f g : FVec Ideal S8x256 .f32) : Prop :=
  ∀ (r : Fin 8) (l : Fin 256) (z : EReal), g (ix2 r l) ≤ z ↔ ∀ i : Fin 256, i.val / w = l.val / w → f (ix2 r i) ≤ z

theorem bit256_1 : ∀ l : Fin 256, (IntOp.cmpi .eq (IntOp.andi (BitVec.ofNat 32 l.val) 1#32) 0#32 = 1) ↔ (l.val / 1) % 2 = 0 := by
  decide +kernel

theorem stage256_1 (f g : FVec Ideal S8x256 .f32) (h : Holds256 1 f g) : Holds256 2 f (stage256 1#32 255#32 g) := by
  intro r l z
  have e : stage256 1#32 255#32 g (ix2 r l) = max (g (ix2 r l))
      (if (l.val / 1) % 2 = 0 then g (ix2 r ⟨(l.val + 256 - 255) % 256, Nat.mod_lt _ (by norm_num)⟩)
        else g (ix2 r ⟨(l.val + 256 - 1) % 256, Nat.mod_lt _ (by norm_num)⟩)) := by
    pointwise [stage256]
    simp only [Scalar.select, bit256_1 l, Nat.div_one]
  rw [e, max_le_iff]
  have hl := l.isLt
  split
  · rw [h r l z, h r _ z]
    constructor
    · rintro ⟨h1, h2⟩ i hi
      by_cases hc : i.val / 1 = l.val / 1
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 1 = l.val / 1
      · exact h1 i hc
      · refine h2 i ?_
        have := i.isLt
        simp only
        omega
    · intro h1
      refine ⟨fun i hi => h1 i (by omega), fun i hi => h1 i ?_⟩
      simp only at hi
      omega

theorem bit256_2 : ∀ l : Fin 256, (IntOp.cmpi .eq (IntOp.andi (BitVec.ofNat 32 l.val) 2#32) 0#32 = 1) ↔ (l.val / 2) % 2 = 0 := by
  decide +kernel

theorem stage256_2 (f g : FVec Ideal S8x256 .f32) (h : Holds256 2 f g) : Holds256 4 f (stage256 2#32 254#32 g) := by
  intro r l z
  have e : stage256 2#32 254#32 g (ix2 r l) = max (g (ix2 r l))
      (if (l.val / 2) % 2 = 0 then g (ix2 r ⟨(l.val + 256 - 254) % 256, Nat.mod_lt _ (by norm_num)⟩)
        else g (ix2 r ⟨(l.val + 256 - 2) % 256, Nat.mod_lt _ (by norm_num)⟩)) := by
    pointwise [stage256]
    simp only [Scalar.select, bit256_2 l, Nat.div_one]
  rw [e, max_le_iff]
  have hl := l.isLt
  split
  · rw [h r l z, h r _ z]
    constructor
    · rintro ⟨h1, h2⟩ i hi
      by_cases hc : i.val / 2 = l.val / 2
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 2 = l.val / 2
      · exact h1 i hc
      · refine h2 i ?_
        have := i.isLt
        simp only
        omega
    · intro h1
      refine ⟨fun i hi => h1 i (by omega), fun i hi => h1 i ?_⟩
      simp only at hi
      omega

theorem bit256_4 : ∀ l : Fin 256, (IntOp.cmpi .eq (IntOp.andi (BitVec.ofNat 32 l.val) 4#32) 0#32 = 1) ↔ (l.val / 4) % 2 = 0 := by
  decide +kernel

theorem stage256_4 (f g : FVec Ideal S8x256 .f32) (h : Holds256 4 f g) : Holds256 8 f (stage256 4#32 252#32 g) := by
  intro r l z
  have e : stage256 4#32 252#32 g (ix2 r l) = max (g (ix2 r l))
      (if (l.val / 4) % 2 = 0 then g (ix2 r ⟨(l.val + 256 - 252) % 256, Nat.mod_lt _ (by norm_num)⟩)
        else g (ix2 r ⟨(l.val + 256 - 4) % 256, Nat.mod_lt _ (by norm_num)⟩)) := by
    pointwise [stage256]
    simp only [Scalar.select, bit256_4 l, Nat.div_one]
  rw [e, max_le_iff]
  have hl := l.isLt
  split
  · rw [h r l z, h r _ z]
    constructor
    · rintro ⟨h1, h2⟩ i hi
      by_cases hc : i.val / 4 = l.val / 4
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 4 = l.val / 4
      · exact h1 i hc
      · refine h2 i ?_
        have := i.isLt
        simp only
        omega
    · intro h1
      refine ⟨fun i hi => h1 i (by omega), fun i hi => h1 i ?_⟩
      simp only at hi
      omega

theorem bit256_8 : ∀ l : Fin 256, (IntOp.cmpi .eq (IntOp.andi (BitVec.ofNat 32 l.val) 8#32) 0#32 = 1) ↔ (l.val / 8) % 2 = 0 := by
  decide +kernel

theorem stage256_8 (f g : FVec Ideal S8x256 .f32) (h : Holds256 8 f g) : Holds256 16 f (stage256 8#32 248#32 g) := by
  intro r l z
  have e : stage256 8#32 248#32 g (ix2 r l) = max (g (ix2 r l))
      (if (l.val / 8) % 2 = 0 then g (ix2 r ⟨(l.val + 256 - 248) % 256, Nat.mod_lt _ (by norm_num)⟩)
        else g (ix2 r ⟨(l.val + 256 - 8) % 256, Nat.mod_lt _ (by norm_num)⟩)) := by
    pointwise [stage256]
    simp only [Scalar.select, bit256_8 l, Nat.div_one]
  rw [e, max_le_iff]
  have hl := l.isLt
  split
  · rw [h r l z, h r _ z]
    constructor
    · rintro ⟨h1, h2⟩ i hi
      by_cases hc : i.val / 8 = l.val / 8
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 8 = l.val / 8
      · exact h1 i hc
      · refine h2 i ?_
        have := i.isLt
        simp only
        omega
    · intro h1
      refine ⟨fun i hi => h1 i (by omega), fun i hi => h1 i ?_⟩
      simp only at hi
      omega

theorem bit256_16 : ∀ l : Fin 256, (IntOp.cmpi .eq (IntOp.andi (BitVec.ofNat 32 l.val) 16#32) 0#32 = 1) ↔ (l.val / 16) % 2 = 0 := by
  decide +kernel

theorem stage256_16 (f g : FVec Ideal S8x256 .f32) (h : Holds256 16 f g) : Holds256 32 f (stage256 16#32 240#32 g) := by
  intro r l z
  have e : stage256 16#32 240#32 g (ix2 r l) = max (g (ix2 r l))
      (if (l.val / 16) % 2 = 0 then g (ix2 r ⟨(l.val + 256 - 240) % 256, Nat.mod_lt _ (by norm_num)⟩)
        else g (ix2 r ⟨(l.val + 256 - 16) % 256, Nat.mod_lt _ (by norm_num)⟩)) := by
    pointwise [stage256]
    simp only [Scalar.select, bit256_16 l, Nat.div_one]
  rw [e, max_le_iff]
  have hl := l.isLt
  split
  · rw [h r l z, h r _ z]
    constructor
    · rintro ⟨h1, h2⟩ i hi
      by_cases hc : i.val / 16 = l.val / 16
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 16 = l.val / 16
      · exact h1 i hc
      · refine h2 i ?_
        have := i.isLt
        simp only
        omega
    · intro h1
      refine ⟨fun i hi => h1 i (by omega), fun i hi => h1 i ?_⟩
      simp only at hi
      omega

theorem bit256_32 : ∀ l : Fin 256, (IntOp.cmpi .eq (IntOp.andi (BitVec.ofNat 32 l.val) 32#32) 0#32 = 1) ↔ (l.val / 32) % 2 = 0 := by
  decide +kernel

theorem stage256_32 (f g : FVec Ideal S8x256 .f32) (h : Holds256 32 f g) : Holds256 64 f (stage256 32#32 224#32 g) := by
  intro r l z
  have e : stage256 32#32 224#32 g (ix2 r l) = max (g (ix2 r l))
      (if (l.val / 32) % 2 = 0 then g (ix2 r ⟨(l.val + 256 - 224) % 256, Nat.mod_lt _ (by norm_num)⟩)
        else g (ix2 r ⟨(l.val + 256 - 32) % 256, Nat.mod_lt _ (by norm_num)⟩)) := by
    pointwise [stage256]
    simp only [Scalar.select, bit256_32 l, Nat.div_one]
  rw [e, max_le_iff]
  have hl := l.isLt
  split
  · rw [h r l z, h r _ z]
    constructor
    · rintro ⟨h1, h2⟩ i hi
      by_cases hc : i.val / 32 = l.val / 32
      · exact h1 i hc
      · refine h2 i ?_
        have := i.isLt
        simp only
        omega
    · intro h1
      refine ⟨fun i hi => h1 i (by omega), fun i hi => h1 i ?_⟩
      simp only at hi
      omega
  · rw [h r l z, h r _ z]
    constructor
    · rintro ⟨h1, h2⟩ i hi
      by_cases hc : i.val / 32 = l.val / 32
      · exact h1 i hc
      · refine h2 i ?_
        have := i.isLt
        simp only
        omega
    · intro h1
      refine ⟨fun i hi => h1 i (by omega), fun i hi => h1 i ?_⟩
      simp only at hi
      omega

theorem holds256_start (f : FVec Ideal S8x256 .f32) : Holds256 1 f f := by
  intro r l z
  constructor
  · intro h i hi
    rwa [show i = l from Fin.ext (by omega)]
  · intro h
    exact h l rfl

/-- The group maximum is below `z` exactly when every magnitude of the group is. -/
theorem groupMax256_le (v3 : FVec Ideal S8x128x256 .f32) (r : Fin 8) (l : Fin 256) (z : EReal) :
    groupMax256 v3 (ix2 r l) ≤ z ↔ ∀ (i : Fin 256), i.val / 64 = l.val / 64 → ∀ k : Fin 128, Spec.abs (v3 (ix3 r k i)) ≤ z := by
  have h : Holds256 64 _ (groupMax256 v3) :=
    stage256_32 _ _ (stage256_16 _ _ (stage256_8 _ _ (stage256_4 _ _ (stage256_2 _ _ (stage256_1 _ _ (holds256_start _))))))
  rw [h r l z]
  refine forall_congr' fun i => imp_congr_right fun _ => ?_
  have e : (multiReduction .maximumf [1] S8x256 (absf v3) 0xFF800000#32 Gen.reduces_S8x128x256_S8x256 (.inl rfl) rfl) (ix2 r i) = Finset.univ.fold max (⊥ : EReal) fun k : Fin 128 => Spec.abs (v3 (ix3 r k i)) := by
    pointwise []
    rw [Spec.ofBits_neg_inf]
    rfl
  rw [e, Finset.fold_max_le]
  simp

end Cert.KernelIdeal.Val

end
-- ==== Proof.Block1.lean ====
/- What one step of the quantising call number 2 leaves in its output blocks, from its input block: the scales of the heads'
   groups of the eight token blocks, and the codes. -/
module

public import proofs.«01_k».proof.Proof.GroupMax256
public import Idealize.ShloMosaic.Lib.Pipeline.ValueKit

@[expose] public section

set_option maxRecDepth 16384

noncomputable section

namespace Cert.KernelIdeal.Val

open Idealize.ShloMosaic Cert.KernelIdeal

/-- The largest magnitude of the group of token block `r` and head `g` of a tile. -/
def bmax1 (x0 : Vec Ideal S1x1024x256 .bf16) (r : Fin 8) (g : Fin 4) : EReal :=
  Finset.univ.sup fun p : Fin 128 × Fin 64 =>
    Spec.abs (x0 (ix3 0 (⟨r.val * 128 + p.1.val, by omega⟩ : Fin 1024) (⟨g.val * 64 + p.2.val, by omega⟩ : Fin 256)))

/-- The tile read as eight blocks of 128 tokens. -/
theorem rows1 (x0 : Vec Ideal S1x1024x256 .bf16) (r : Fin 8) (k : Fin 128) (l : Fin 256) :
    (Gen.k1_pay3 (View.ld x0 Gen.r1_0) : FVec Ideal S8x128x256 .f32) (ix3 r k l) = x0 (ix3 0 (⟨r.val * 128 + k.val, by omega⟩ : Fin 1024) l) := by
  pointwise! [Gen.k1_pay3]

theorem amax1 (x0 : Vec Ideal S1x1024x256 .bf16) (r : Fin 8) (l : Fin 256) :
    (Gen.k1_pay15 x0 : FVec Ideal S8x256 .f32) (ix2 r l) = bmax1 x0 r ⟨l.val / 64, by omega⟩ := by
  show groupMax256 (Gen.k1_pay3 (View.ld x0 Gen.r1_0)) (ix2 r l) = _
  refine eq_of_forall_ge_iff fun z => ?_
  rw [groupMax256_le, bmax1, Finset.sup_le_iff]
  constructor
  · rintro h ⟨k, d⟩ -
    have h1 := h ⟨l.val / 64 * 64 + d.val, by omega⟩ (by simp only; omega) k
    rw [rows1] at h1
    exact h1
  · intro h i hi k
    rw [rows1]
    have h1 := h (k, ⟨i.val % 64, Nat.mod_lt _ (by norm_num)⟩) (Finset.mem_univ _)
    have h2 : (⟨l.val / 64 * 64 + i.val % 64, by omega⟩ : Fin 256) = i := Fin.ext (by simp only; omega)
    simp only [h2] at h1
    exact h1

/-- The kernel's exponent of each lane's group. -/
theorem expo1 (x0 : Vec Ideal S1x1024x256 .bf16) (j : S8x256.Idx) :
    (Gen.k1_pay10 (Gen.k1_pay15 x0) (Gen.k1_pay16 x0) (Gen.k1_pay17 x0) (Gen.k1_pay18 x0) : IVec S8x256 32) j = Spec.kexp ((Gen.k1_pay15 x0 : FVec Ideal S8x256 .f32) j) := by
  exact Spec.expoV_apply (Gen.k1_pay15 x0) j

theorem scales1 (x0 : Vec Ideal S1x1024x256 .bf16) (r : Fin 8) (l : Fin 256) :
    Gen.out1_2 x0 (ix3 0 r l) = Spec.pow2 (Spec.kexp (bmax1 x0 r ⟨l.val / 64, by omega⟩)) := by
  unfold Gen.out1_2
  frame_out
  have e1 : (Gen.k1_pay1 (Gen.k1_pay11 (Gen.k1_pay15 x0) (Gen.k1_pay16 x0) (Gen.k1_pay17 x0) (Gen.k1_pay18 x0)) : FVec Ideal S1x8x256 .f32) (ix3 0 r l)
      = Spec.pow2 ((Gen.k1_pay10 (Gen.k1_pay15 x0) (Gen.k1_pay16 x0) (Gen.k1_pay17 x0) (Gen.k1_pay18 x0) : IVec S8x256 32) (ix2 r l)) := by
    show (shapeCast S1x8x256 (bitcastToFloat .f32 (shli (addi (Gen.k1_pay10 (Gen.k1_pay15 x0) (Gen.k1_pay16 x0) (Gen.k1_pay17 x0) (Gen.k1_pay18 x0) : IVec S8x256 32) (broadcast S8x256 127#32)) (broadcast S8x256 23#32)))
      Gen.shapeCasts_S8x256_S1x8x256) (ix3 0 r l) = _
    generalize (Gen.k1_pay10 (Gen.k1_pay15 x0) (Gen.k1_pay16 x0) (Gen.k1_pay17 x0) (Gen.k1_pay18 x0) : IVec S8x256 32) = e
    pointwise []
    rfl
  rw [e1, expo1, amax1]

/-- What a value becomes. -/
theorem codes1 (x0 : Vec Ideal S1x1024x256 .bf16) (p : Fin 1024) (l : Fin 256) :
    Gen.out1_1 x0 (ix3 0 p l) = Spec.kcode (x0 (ix3 0 p l)) (bmax1 x0 ⟨p.val / 128, by omega⟩ ⟨l.val / 64, by omega⟩) := by
  unfold Gen.out1_1
  frame_out
  have e1 : (Gen.k1_pay2 (Gen.k1_pay3 (View.ld x0 Gen.r1_0)) (Gen.k1_pay10 (Gen.k1_pay15 x0) (Gen.k1_pay16 x0) (Gen.k1_pay17 x0) (Gen.k1_pay18 x0)) : FVec Ideal S1x1024x256 .fp8e4m3) (ix3 0 p l)
      = min Spec.hi (max Spec.lo ((Gen.k1_pay3 (View.ld x0 Gen.r1_0) : FVec Ideal S8x128x256 .f32) (ix3 ⟨p.val / 128, by omega⟩ ⟨p.val % 128, Nat.mod_lt _ (by norm_num)⟩ l)
        * Spec.pow2 (IntOp.subi 0#32 ((Gen.k1_pay10 (Gen.k1_pay15 x0) (Gen.k1_pay16 x0) (Gen.k1_pay17 x0) (Gen.k1_pay18 x0) : IVec S8x256 32) (ix2 ⟨p.val / 128, by omega⟩ l))))) := by
    generalize (Gen.k1_pay10 (Gen.k1_pay15 x0) (Gen.k1_pay16 x0) (Gen.k1_pay17 x0) (Gen.k1_pay18 x0) : IVec S8x256 32) = e
    generalize (Gen.k1_pay3 (View.ld x0 Gen.r1_0) : FVec Ideal S8x128x256 .f32) = v
    pointwise [Gen.k1_pay2]
    rfl
  rw [expo1, amax1, rows1, show (View.ld x0 Gen.r1_0 : Vec Ideal S1x1024x256 .bf16) = x0 from View.ld_unit_zero (by decide) _ x0] at e1
  rw [e1]
  have h2 : (⟨p.val / 128 * 128 + p.val % 128, by omega⟩ : Fin 1024) = p := Fin.ext (by simp only; omega)
  simp only [h2]
  rfl

end Cert.KernelIdeal.Val

end
-- ==== Proof.Array1.lean ====
/- What the quantising call number 2 leaves in its output arrays, from its input array. -/
module

public import proofs.«01_k».proof.Proof.Block1

@[expose] public section

set_option maxRecDepth 16384

noncomputable section

namespace Cert.KernelIdeal.Val

open Idealize.ShloMosaic Idealize.ShloMosaic.TcCoe Idealize.ShloMosaic.Pipeline Idealize.SL Cert.KernelIdeal

/-- The largest magnitude of the group of sequence `b`, token block `n` and head `g`. -/
def top1 (X : FVec Ideal S8x4096x256 .bf16) (b : Fin 8) (n : Fin 32) (g : Fin 4) : EReal :=
  Finset.univ.sup fun p : Fin 128 × Fin 64 =>
    Spec.abs (X (ix3 b (⟨n.val * 128 + p.1.val, by omega⟩ : Fin 4096) (⟨g.val * 64 + p.2.val, by omega⟩ : Fin 256)))

theorem top1_congr (X : FVec Ideal S8x4096x256 .bf16) {b b' : Fin 8} {n n' : Fin 32} {g g' : Fin 4} (hb : b = b') (hn : n = n') (hg : g = g') :
    top1 X b n g = top1 X b' n' g' := by
  subst hb hn hg
  rfl

variable (V : (c : Dev nD) → (b : Ref sig .tc) → Buf (Elt Ideal) ((c : Thread nD τ).loc b))

/-- The call's input array. -/
abbrev in1 (c : Dev nD) : FVec Ideal S8x4096x256 .bf16 := V c (Pipeline.arrRef spec1 0)

theorem e1_0 : ∀ t : Fin cfg1.N, win1_0.index t = ![(grid1.coords t 0).val, (grid1.coords t 1).val, 0] :=
  (by decide +kernel : ∀ t : Fin grid1.N, _)

theorem e1_1 : ∀ t : Fin cfg1.N, win1_1.index t = ![(grid1.coords t 0).val, (grid1.coords t 1).val, 0] :=
  (by decide +kernel : ∀ t : Fin grid1.N, _)

theorem e1_2 : ∀ t : Fin cfg1.N, win1_2.index t = ![(grid1.coords t 0).val, (grid1.coords t 1).val, 0] :=
  (by decide +kernel : ∀ t : Fin grid1.N, _)

/-- The group maxima of a tile are those of the array. -/
theorem bmax1_eq (c : Dev nD) (t : Fin cfg1.N) (r : Fin 8) (g : Fin 4) :
    bmax1 (Gen.iblk1 V c 0 t) r g = top1 (in1 V c) (grid1.coords t 0) ⟨(grid1.coords t 1).val * 8 + r.val, by have := (grid1.coords t 1).isLt; change _ < 4 at this; omega⟩ g := by
  unfold bmax1 top1
  refine congrArg (Finset.sup _) (funext fun p => ?_)
  refine congrArg Spec.abs ?_
  blk_simp [Gen.iblk1]
  refine congrArg (in1 V c) ?_
  blk_ext [e1_0]

theorem codesA1 (c : Dev nD) : (Gen.dat1 V c).arrAt 1 cfg1.N = fun y : S8x4096x256.Idx =>
    Spec.kcode (in1 V c y) (top1 (in1 V c) (y 0) ⟨(y 1).val / 128, by have := (y 1).isLt; change _ < 4096 at this; omega⟩ ⟨(y 2).val / 64, by have := (y 2).isLt; change _ < 256 at this; omega⟩) := by
  refine (Gen.dat1 V c).arrAt_eq_of_covers 1 _ (by decide +kernel) fun t hf y => ?_
  blk_simp
  rw [Gen.after1_1]
  idx_vars y
  obtain rfl : y0 = 0 := Subsingleton.elim _ _
  rw [codes1, bmax1_eq]
  have h0 := (grid1.coords t 0).isLt
  have h1 := (grid1.coords t 1).isLt
  change _ < 8 at h0
  change _ < 4 at h1
  refine congr (congrArg Spec.kcode ?_) (top1_congr _ (Fin.ext ?_) (Fin.ext ?_) (Fin.ext ?_))
  · blk_simp [Gen.iblk1]
    refine congrArg (in1 V c) ?_
    blk_ext [e1_0, e1_1]
  · blk_simp [e1_1]
    try simp
  · blk_simp [e1_1]
    try simp
    try omega
  · blk_simp [e1_1]
    try simp

theorem scalesA1 (c : Dev nD) : (Gen.dat1 V c).arrAt 2 cfg1.N = fun y : S8x32x256.Idx =>
    Spec.pow2 (Spec.kexp (top1 (in1 V c) (y 0) (y 1) ⟨(y 2).val / 64, by have := (y 2).isLt; change _ < 256 at this; omega⟩)) := by
  refine (Gen.dat1 V c).arrAt_eq_of_covers 2 _ (by decide +kernel) fun t hf y => ?_
  blk_simp
  rw [Gen.after1_2]
  idx_vars y
  obtain rfl : y0 = 0 := Subsingleton.elim _ _
  rw [scales1, bmax1_eq]
  refine congrArg (fun e => Spec.pow2 (Spec.kexp e)) (top1_congr _ (Fin.ext ?_) (Fin.ext ?_) (Fin.ext ?_))
  · blk_simp [e1_2]
    try simp
  · blk_simp [e1_2]
    try simp
  · blk_simp [e1_2]
    try simp

end Cert.KernelIdeal.Val

end
-- ==== Proof.Block2.lean ====
/- What one step of the quantising call number 3 leaves in its output blocks, from its input block: the scales of the heads'
   groups of the eight token blocks, and the codes. -/
module

public import proofs.«01_k».proof.Proof.GroupMax256
public import Idealize.ShloMosaic.Lib.Pipeline.ValueKit

@[expose] public section

set_option maxRecDepth 16384

noncomputable section

namespace Cert.KernelIdeal.Val

open Idealize.ShloMosaic Cert.KernelIdeal

/-- The largest magnitude of the group of token block `r` and head `g` of a tile. -/
def bmax2 (x0 : Vec Ideal S1x1024x256 .bf16) (r : Fin 8) (g : Fin 4) : EReal :=
  Finset.univ.sup fun p : Fin 128 × Fin 64 =>
    Spec.abs (x0 (ix3 0 (⟨r.val * 128 + p.1.val, by omega⟩ : Fin 1024) (⟨g.val * 64 + p.2.val, by omega⟩ : Fin 256)))

/-- The tile read as eight blocks of 128 tokens. -/
theorem rows2 (x0 : Vec Ideal S1x1024x256 .bf16) (r : Fin 8) (k : Fin 128) (l : Fin 256) :
    (Gen.k2_pay15 x0 : FVec Ideal S8x128x256 .f32) (ix3 r k l) = x0 (ix3 0 (⟨r.val * 128 + k.val, by omega⟩ : Fin 1024) l) := by
  pointwise! [Gen.k2_pay5, Gen.k2_pay15]

theorem amax2 (x0 : Vec Ideal S1x1024x256 .bf16) (r : Fin 8) (l : Fin 256) :
    (Gen.k2_pay18 x0 : FVec Ideal S8x256 .f32) (ix2 r l) = bmax2 x0 r ⟨l.val / 64, by omega⟩ := by
  show groupMax256 (Gen.k2_pay15 x0) (ix2 r l) = _
  refine eq_of_forall_ge_iff fun z => ?_
  rw [groupMax256_le, bmax2, Finset.sup_le_iff]
  constructor
  · rintro h ⟨k, d⟩ -
    have h1 := h ⟨l.val / 64 * 64 + d.val, by omega⟩ (by simp only; omega) k
    rw [rows2] at h1
    exact h1
  · intro h i hi k
    rw [rows2]
    have h1 := h (k, ⟨i.val % 64, Nat.mod_lt _ (by norm_num)⟩) (Finset.mem_univ _)
    have h2 : (⟨l.val / 64 * 64 + i.val % 64, by omega⟩ : Fin 256) = i := Fin.ext (by simp only; omega)
    simp only [h2] at h1
    exact h1

/-- The kernel's exponent of each lane's group. -/
theorem expo2 (x0 : Vec Ideal S1x1024x256 .bf16) (j : S8x256.Idx) :
    (Gen.k2_pay22 x0 : IVec S8x256 32) j = Spec.kexp ((Gen.k2_pay18 x0 : FVec Ideal S8x256 .f32) j) := by
  exact Spec.expoV_apply (Gen.k2_pay18 x0) j

theorem scales2 (x0 : Vec Ideal S1x1024x256 .bf16) (r : Fin 8) (l : Fin 256) :
    Gen.out2_2 x0 (ix3 0 r l) = Spec.pow2 (Spec.kexp (bmax2 x0 r ⟨l.val / 64, by omega⟩)) := by
  unfold Gen.out2_2
  frame_out
  have e1 : (Gen.k2_pay1 (Gen.k2_pay13 (Gen.k2_pay18 x0) (Gen.k2_pay19 x0) (Gen.k2_pay20 x0) (Gen.k2_pay21 x0)) : FVec Ideal S1x8x256 .f32) (ix3 0 r l)
      = Spec.pow2 ((Gen.k2_pay22 x0 : IVec S8x256 32) (ix2 r l)) := by
    show (shapeCast S1x8x256 (bitcastToFloat .f32 (shli (addi (Gen.k2_pay22 x0 : IVec S8x256 32) (broadcast S8x256 127#32)) (broadcast S8x256 23#32)))
      Gen.shapeCasts_S8x256_S1x8x256) (ix3 0 r l) = _
    generalize (Gen.k2_pay22 x0 : IVec S8x256 32) = e
    pointwise []
    rfl
  rw [e1, expo2, amax2]

/-- What a value becomes. -/
theorem codes2 (x0 : Vec Ideal S1x1024x256 .bf16) (p : Fin 1024) (l : Fin 256) :
    Gen.out2_1 x0 (ix3 0 p l) = Spec.kcode (x0 (ix3 0 p l)) (bmax2 x0 ⟨p.val / 128, by omega⟩ ⟨l.val / 64, by omega⟩) := by
  unfold Gen.out2_1
  frame_out
  have e1 : (Gen.k2_pay3 (Gen.k2_pay15 x0) (Gen.k2_pay22 x0) : FVec Ideal S1x1024x256 .fp8e4m3) (ix3 0 p l)
      = min Spec.hi (max Spec.lo ((Gen.k2_pay15 x0 : FVec Ideal S8x128x256 .f32) (ix3 ⟨p.val / 128, by omega⟩ ⟨p.val % 128, Nat.mod_lt _ (by norm_num)⟩ l)
        * Spec.pow2 (IntOp.subi 0#32 ((Gen.k2_pay22 x0 : IVec S8x256 32) (ix2 ⟨p.val / 128, by omega⟩ l))))) := by
    generalize (Gen.k2_pay22 x0 : IVec S8x256 32) = e
    generalize (Gen.k2_pay15 x0 : FVec Ideal S8x128x256 .f32) = v
    pointwise [Gen.k2_pay2, Gen.k2_pay3]
    rfl
  rw [e1, expo2, amax2, rows2]
  have h2 : (⟨p.val / 128 * 128 + p.val % 128, by omega⟩ : Fin 1024) = p := Fin.ext (by simp only; omega)
  simp only [h2]
  rfl

/-- The codes a second time, channels first. -/
theorem codesT2 (x0 : Vec Ideal S1x1024x256 .bf16) (p : Fin 1024) (l : Fin 256) :
    Gen.out2_3 x0 (ix3 0 l p) = Spec.kcode (x0 (ix3 0 p l)) (bmax2 x0 ⟨p.val / 128, by omega⟩ ⟨l.val / 64, by omega⟩) := by
  unfold Gen.out2_3
  frame_out
  have e1 : (Gen.k2_pay4 (Gen.k2_pay15 x0) (Gen.k2_pay22 x0) : FVec Ideal S1x256x1024 .fp8e4m3) (ix3 0 l p)
      = min Spec.hi (max Spec.lo ((Gen.k2_pay15 x0 : FVec Ideal S8x128x256 .f32) (ix3 ⟨p.val / 128, by omega⟩ ⟨p.val % 128, Nat.mod_lt _ (by norm_num)⟩ l)
        * Spec.pow2 (IntOp.subi 0#32 ((Gen.k2_pay22 x0 : IVec S8x256 32) (ix2 ⟨p.val / 128, by omega⟩ l))))) := by
    generalize (Gen.k2_pay22 x0 : IVec S8x256 32) = e
    generalize (Gen.k2_pay15 x0 : FVec Ideal S8x128x256 .f32) = v
    pointwise [Gen.k2_pay2, Gen.k2_pay4]
    rfl
  rw [e1, expo2, amax2, rows2]
  have h2 : (⟨p.val / 128 * 128 + p.val % 128, by omega⟩ : Fin 1024) = p := Fin.ext (by simp only; omega)
  simp only [h2]
  rfl

end Cert.KernelIdeal.Val

end
-- ==== Proof.Array2.lean ====
/- What the quantising call number 3 leaves in its output arrays, from its input array. -/
module

public import proofs.«01_k».proof.Proof.Block2

@[expose] public section

set_option maxRecDepth 16384

noncomputable section

namespace Cert.KernelIdeal.Val

open Idealize.ShloMosaic Idealize.ShloMosaic.TcCoe Idealize.ShloMosaic.Pipeline Idealize.SL Cert.KernelIdeal

/-- The largest magnitude of the group of sequence `b`, token block `n` and head `g`. -/
def top2 (X : FVec Ideal S8x4096x256 .bf16) (b : Fin 8) (n : Fin 32) (g : Fin 4) : EReal :=
  Finset.univ.sup fun p : Fin 128 × Fin 64 =>
    Spec.abs (X (ix3 b (⟨n.val * 128 + p.1.val, by omega⟩ : Fin 4096) (⟨g.val * 64 + p.2.val, by omega⟩ : Fin 256)))

theorem top2_congr (X : FVec Ideal S8x4096x256 .bf16) {b b' : Fin 8} {n n' : Fin 32} {g g' : Fin 4} (hb : b = b') (hn : n = n') (hg : g = g') :
    top2 X b n g = top2 X b' n' g' := by
  subst hb hn hg
  rfl

variable (V : (c : Dev nD) → (b : Ref sig .tc) → Buf (Elt Ideal) ((c : Thread nD τ).loc b))

/-- The call's input array. -/
abbrev in2 (c : Dev nD) : FVec Ideal S8x4096x256 .bf16 := V c (Pipeline.arrRef spec2 0)

theorem e2_0 : ∀ t : Fin cfg2.N, win2_0.index t = ![(grid2.coords t 0).val, (grid2.coords t 1).val, 0] :=
  (by decide +kernel : ∀ t : Fin grid2.N, _)

theorem e2_1 : ∀ t : Fin cfg2.N, win2_1.index t = ![(grid2.coords t 0).val, (grid2.coords t 1).val, 0] :=
  (by decide +kernel : ∀ t : Fin grid2.N, _)

theorem e2_2 : ∀ t : Fin cfg2.N, win2_2.index t = ![(grid2.coords t 0).val, (grid2.coords t 1).val, 0] :=
  (by decide +kernel : ∀ t : Fin grid2.N, _)

/-- The group maxima of a tile are those of the array. -/
theorem bmax2_eq (c : Dev nD) (t : Fin cfg2.N) (r : Fin 8) (g : Fin 4) :
    bmax2 (Gen.iblk2 V c 0 t) r g = top2 (in2 V c) (grid2.coords t 0) ⟨(grid2.coords t 1).val * 8 + r.val, by have := (grid2.coords t 1).isLt; change _ < 4 at this; omega⟩ g := by
  unfold bmax2 top2
  refine congrArg (Finset.sup _) (funext fun p => ?_)
  refine congrArg Spec.abs ?_
  blk_simp [Gen.iblk2]
  refine congrArg (in2 V c) ?_
  blk_ext [e2_0]

theorem codesA2 (c : Dev nD) : (Gen.dat2 V c).arrAt 1 cfg2.N = fun y : S8x4096x256.Idx =>
    Spec.kcode (in2 V c y) (top2 (in2 V c) (y 0) ⟨(y 1).val / 128, by have := (y 1).isLt; change _ < 4096 at this; omega⟩ ⟨(y 2).val / 64, by have := (y 2).isLt; change _ < 256 at this; omega⟩) := by
  refine (Gen.dat2 V c).arrAt_eq_of_covers 1 _ (by decide +kernel) fun t hf y => ?_
  blk_simp
  rw [Gen.after2_1]
  idx_vars y
  obtain rfl : y0 = 0 := Subsingleton.elim _ _
  rw [codes2, bmax2_eq]
  have h0 := (grid2.coords t 0).isLt
  have h1 := (grid2.coords t 1).isLt
  change _ < 8 at h0
  change _ < 4 at h1
  refine congr (congrArg Spec.kcode ?_) (top2_congr _ (Fin.ext ?_) (Fin.ext ?_) (Fin.ext ?_))
  · blk_simp [Gen.iblk2]
    refine congrArg (in2 V c) ?_
    blk_ext [e2_0, e2_1]
  · blk_simp [e2_1]
    try simp
  · blk_simp [e2_1]
    try simp
    try omega
  · blk_simp [e2_1]
    try simp

theorem scalesA2 (c : Dev nD) : (Gen.dat2 V c).arrAt 2 cfg2.N = fun y : S8x32x256.Idx =>
    Spec.pow2 (Spec.kexp (top2 (in2 V c) (y 0) (y 1) ⟨(y 2).val / 64, by have := (y 2).isLt; change _ < 256 at this; omega⟩)) := by
  refine (Gen.dat2 V c).arrAt_eq_of_covers 2 _ (by decide +kernel) fun t hf y => ?_
  blk_simp
  rw [Gen.after2_2]
  idx_vars y
  obtain rfl : y0 = 0 := Subsingleton.elim _ _
  rw [scales2, bmax2_eq]
  refine congrArg (fun e => Spec.pow2 (Spec.kexp e)) (top2_congr _ (Fin.ext ?_) (Fin.ext ?_) (Fin.ext ?_))
  · blk_simp [e2_2]
    try simp
  · blk_simp [e2_2]
    try simp
  · blk_simp [e2_2]
    try simp

theorem e2_3 : ∀ t : Fin cfg2.N, win2_3.index t = ![(grid2.coords t 0).val, 0, (grid2.coords t 1).val] :=
  (by decide +kernel : ∀ t : Fin grid2.N, _)

theorem codesTA2 (c : Dev nD) : (Gen.dat2 V c).arrAt 3 cfg2.N = fun y : S8x256x4096.Idx =>
    Spec.kcode (in2 V c (ix3 (y 0) (y 2) (y 1))) (top2 (in2 V c) (y 0) ⟨(y 2).val / 128, by have := (y 2).isLt; change _ < 4096 at this; omega⟩ ⟨(y 1).val / 64, by have := (y 1).isLt; change _ < 256 at this; omega⟩) := by
  refine (Gen.dat2 V c).arrAt_eq_of_covers 3 _ (by decide +kernel) fun t hf y => ?_
  blk_simp
  rw [Gen.after2_3]
  idx_vars y
  obtain rfl : y0 = 0 := Subsingleton.elim _ _
  rw [codesT2, bmax2_eq]
  have h0 := (grid2.coords t 0).isLt
  have h1 := (grid2.coords t 1).isLt
  change _ < 8 at h0
  change _ < 4 at h1
  refine congr (congrArg Spec.kcode ?_) (top2_congr _ (Fin.ext ?_) (Fin.ext ?_) (Fin.ext ?_))
  · blk_simp [Gen.iblk2]
    refine congrArg (in2 V c) ?_
    blk_ext [e2_0, e2_3]
  · blk_simp [e2_3]
    try simp
  · blk_simp [e2_3]
    try simp
    try omega
  · blk_simp [e2_3]
    try simp

end Cert.KernelIdeal.Val

end
-- ==== Proof.AttnQuery.lean ====
/- The attention's query tile: the four heads of a group one after another along the rows, each row's 64 channels in the
   half of the lanes which the key head fills, zero in the other half. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Val

open Idealize.ShloMosaic Cert.KernelIdeal

/-- Which lanes a head of the pair keeps. -/
def keepV (o : BitVec 1) : IVec S128x128 1 :=
  xori (xori (cmpi .sge (iota .tc S128x128 32 [1] Gen.iota_S128x128_d1_w32) (broadcast S128x128 64#32))
    (broadcastTo S128x128 (broadcast S128x128 o) Gen.broadcasts_S128x128_S128x128)) (constantI S128x128 1 1#1)

/-- One head of a pair, moved into the kept lanes; `b` is the head's place in its pair. -/
def headV (o b : BitVec 1) (v : FVec Ideal S128x128 .f32) : FVec Ideal S128x128 .f32 :=
  select (keepV o) (Scalar.select (Scalar.xori (Scalar.xori o b) 1#1) v (dynamicRotate 1 64#32 none v Gen.rotates_S128x128_d1))
    (broadcast S128x128 (Scalar.ofBits (F := Ideal) .f32 0x00000000#32))

/-- The four heads' rows. -/
def qallV (o : BitVec 1) (x0 : Vec Ideal S1x128x256 .fp8e4m3) : FVec Ideal S512x128 .fp8e4m3 :=
  truncf .fp8e4m3 (concatenate S512x128 0
    [⟨S128x128, headV o 0#1 (extractStridedSlice S128x128 ![0, 0] (Gen.k3_pay1 x0) Gen.slices_S128x256_o0_0_S128x128)⟩,
     ⟨S128x128, headV o 1#1 (extractStridedSlice S128x128 ![0, 0] (Gen.k3_pay1 x0) Gen.slices_S128x256_o0_0_S128x128)⟩,
     ⟨S128x128, headV o 0#1 (extractStridedSlice S128x128 ![0, 128] (Gen.k3_pay1 x0) Gen.slices_S128x256_o0_128_S128x128)⟩,
     ⟨S128x128, headV o 1#1 (extractStridedSlice S128x128 ![0, 128] (Gen.k3_pay1 x0) Gen.slices_S128x256_o0_128_S128x128)⟩]
    Gen.concatenates_S128x128_S128x128_S128x128_S128x128_S512x128_d0) Gen.bitsLt_fp8e4m3_f32

theorem keep0 (a : Fin 128) (l : Fin 128) : keepV 0#1 (ix2 a l) = BitVec.ofBool (decide (l.val / 64 = 0)) := by
  have h : keepV 0#1 (ix2 a l) = (if l.val < 64 then 1#1 else 0#1) := by
    pointwise [keepV]
    revert l
    decide +kernel
  rw [h]
  have : l.val / 64 = 0 ↔ l.val < 64 := by omega
  by_cases hl : l.val < 64 <;> simp [this, hl]

theorem keep1 (a : Fin 128) (l : Fin 128) : keepV 1#1 (ix2 a l) = BitVec.ofBool (decide (l.val / 64 = 1)) := by
  have h : keepV 1#1 (ix2 a l) = (if l.val < 64 then 0#1 else 1#1) := by
    pointwise [keepV]
    revert l
    decide +kernel
  rw [h]
  have : l.val / 64 = 1 ↔ ¬ l.val < 64 := by omega
  by_cases hl : l.val < 64 <;> simp [this, hl]

theorem keep (o : Fin 2) (a : Fin 128) (l : Fin 128) : keepV (BitVec.ofNat 1 o.val) (ix2 a l) = BitVec.ofBool (decide (l.val / 64 = o.val)) := by
  fin_cases o
  · exact keep0 a l
  · exact keep1 a l

theorem head_apply (o b : Fin 2) (v : FVec Ideal S128x128 .f32) (a : Fin 128) (l : Fin 128) :
    headV (BitVec.ofNat 1 o.val) (BitVec.ofNat 1 b.val) v (ix2 a l)
      = if l.val / 64 = o.val then v (ix2 a ⟨b.val * 64 + l.val % 64, by omega⟩) else 0 := by
  unfold headV
  pointwise []
  rw [keep]
  by_cases hl : l.val / 64 = o.val
  · rw [if_pos hl, decide_eq_true hl]
    show Scalar.select _ _ _ = _
    fin_cases o <;> fin_cases b
    all_goals
      refine congrArg v (congrArg (ix2 a) (Fin.ext ?_))
      simp only [Fin.zero_eta, Fin.mk_one, Fin.val_zero, Fin.val_one] at hl ⊢
      omega
  · rw [if_neg hl, decide_eq_false hl]
    rfl

/-- Four tiles one after another along the rows, read at a row. -/
theorem cat4 (A B C D : FVec Ideal S128x128 .f32) (r : Fin 4) (q l : Fin 128) :
    (truncf .fp8e4m3 (concatenate S512x128 0 [⟨S128x128, A⟩, ⟨S128x128, B⟩, ⟨S128x128, C⟩, ⟨S128x128, D⟩]
      Gen.concatenates_S128x128_S128x128_S128x128_S128x128_S512x128_d0) Gen.bitsLt_fp8e4m3_f32 : FVec Ideal S512x128 .fp8e4m3)
        (ix2 (⟨r.val * 128 + q.val, by omega⟩ : Fin 512) l) = (![A, B, C, D] r) (ix2 q l) := by
  fin_cases r
  all_goals
    pointwise []
    try
      split_ifs <;> first | omega | skip
  · exact congrArg C (congrArg (ix2 · l) (Fin.ext (by simp only []; omega)))
  · exact congrArg D (congrArg (ix2 · l) (Fin.ext (by simp only []; omega)))

/-- Row `r * 128 + q` of the four heads' rows holds head `r` of query `q`. -/
theorem qall_apply (o : Fin 2) (x0 : Vec Ideal S1x128x256 .fp8e4m3) (r : Fin 4) (q l : Fin 128) :
    qallV (BitVec.ofNat 1 o.val) x0 (ix2 (⟨r.val * 128 + q.val, by omega⟩ : Fin 512) l)
      = if l.val / 64 = o.val then (x0 (ix3 0 q (⟨r.val * 64 + l.val % 64, by omega⟩ : Fin 256)) : EReal) else 0 := by
  unfold qallV
  rw [cat4]
  have h0 := fun v => head_apply o 0 v q l
  have h1 := fun v => head_apply o 1 v q l
  change ∀ v, headV (BitVec.ofNat 1 o.val) 0#1 v (ix2 q l) = _ at h0
  change ∀ v, headV (BitVec.ofNat 1 o.val) 1#1 v (ix2 q l) = _ at h1
  fin_cases r
  · refine (h0 _).trans (if_congr Iff.rfl ?_ rfl)
    pointwise! [Gen.k3_pay1]
  · refine (h1 _).trans (if_congr Iff.rfl ?_ rfl)
    pointwise! [Gen.k3_pay1]
  · refine (h0 _).trans (if_congr Iff.rfl ?_ rfl)
    pointwise! [Gen.k3_pay1]
  · refine (h1 _).trans (if_congr Iff.rfl ?_ rfl)
    pointwise! [Gen.k3_pay1]
    exact congrArg x0 (congrArg (ix3 0 q) (Fin.ext (by simp only []; omega)))

/-- A score: key `k` of the tile against row `j`, over the 64 channels the key head fills. -/
def score (o : Fin 2) (x0 : Vec Ideal S1x128x256 .fp8e4m3) (x1 : Vec Ideal S1x4096x128 .fp8e4m3) (k : Fin 4096) (j : Fin 512) : EReal :=
  ∑ d : Fin 64, (x1 (ix3 0 k (⟨o.val * 64 + d.val, by omega⟩ : Fin 128)) : EReal)
    * x0 (ix3 0 (⟨j.val % 128, Nat.mod_lt _ (by norm_num)⟩ : Fin 128) (⟨j.val / 128 * 64 + d.val, by omega⟩ : Fin 256))

/-- A sum over the lanes of which one half is zero. -/
theorem half_sum (o : Fin 2) (f g : Fin 128 → EReal) :
    ∑ l : Fin 128, f l * (if l.val / 64 = o.val then g l else 0)
      = ∑ d : Fin 64, f ⟨o.val * 64 + d.val, by omega⟩ * g ⟨o.val * 64 + d.val, by omega⟩ := by
  have h1 : ∀ l : Fin 128, f l * (if l.val / 64 = o.val then g l else 0) = if l.val / 64 = o.val then f l * g l else 0 := by
    intro l
    split_ifs <;> simp
  rw [Finset.sum_congr rfl fun l _ => h1 l, ← Finset.sum_filter]
  refine (Finset.sum_bij' (fun (l : Fin 128) _ => (⟨l.val % 64, Nat.mod_lt _ (by norm_num)⟩ : Fin 64))
    (fun (d : Fin 64) _ => (⟨o.val * 64 + d.val, by omega⟩ : Fin 128)) ?_ ?_ ?_ ?_ ?_)
  · intro l _
    exact Finset.mem_univ _
  · intro d _
    simp only [Finset.mem_filter, Finset.mem_univ, true_and]
    omega
  · intro l hl
    simp only [Finset.mem_filter, Finset.mem_univ, true_and] at hl
    exact Fin.ext (by simp only; omega)
  · intro d _
    exact Fin.ext (by simp only; omega)
  · intro l hl
    simp only [Finset.mem_filter, Finset.mem_univ, true_and] at hl
    have h2 : (⟨o.val * 64 + l.val % 64, by omega⟩ : Fin 128) = l := Fin.ext (by simp only; omega)
    simp only [h2]

/-- A chunk of 512 keys against the rows. -/
theorem scores_apply (o : Fin 2) (x0 : Vec Ideal S1x128x256 .fp8e4m3) (kc : Vec Ideal S1x512x128 .fp8e4m3) (k j : Fin 512) :
    (Gen.k3_pay29 (qallV (BitVec.ofNat 1 o.val) x0) kc : FVec Ideal S512x512 .f32) (ix2 k j)
      = ∑ d : Fin 64, (kc (ix3 0 k (⟨o.val * 64 + d.val, by omega⟩ : Fin 128)) : EReal)
        * x0 (ix3 0 (⟨j.val % 128, Nat.mod_lt _ (by norm_num)⟩ : Fin 128) (⟨j.val / 128 * 64 + d.val, by omega⟩ : Fin 256)) := by
  have hj : (⟨j.val / 128 * 128 + j.val % 128, by omega⟩ : Fin 512) = j := Fin.ext (by simp only; omega)
  have hq := fun l => qall_apply o x0 ⟨j.val / 128, by omega⟩ ⟨j.val % 128, Nat.mod_lt _ (by norm_num)⟩ l
  simp only [hj] at hq
  generalize qallV (BitVec.ofNat 1 o.val) x0 = v at hq
  pointwise [Gen.k3_pay29]
  simp only [hq]
  rw [half_sum o (fun l => (kc (ix3 0 k l) : EReal)) fun l => (x0 (ix3 0 (⟨j.val % 128, Nat.mod_lt _ (by norm_num)⟩ : Fin 128) (⟨j.val / 128 * 64 + l.val % 64, by omega⟩ : Fin 256)) : EReal)]
  refine Finset.sum_congr rfl fun d _ => congrArg (_ * ·) (congrArg x0 (congrArg (ix3 0 _) (Fin.ext ?_)))
  simp only []
  omega

/-- Whether the head of this grid point is the second of its pair. -/
theorem odd_eq (i : grid3.Coords) : Gen.kernelRun3_A.sl.v10 i = BitVec.ofNat 1 ((i 1).val % 2) := by
  have h : ∀ g : Fin 4, Scalar.cmpi .eq (Scalar.select (Scalar.andi (Scalar.xori (Scalar.cmpi .slt (Scalar.remsi (BitVec.ofNat 32 g.val) 2#32) 0#32) 0#1)
      (Scalar.cmpi .ne (Scalar.remsi (BitVec.ofNat 32 g.val) 2#32) 0#32)) (Scalar.addi (Scalar.remsi (BitVec.ofNat 32 g.val) 2#32) 2#32)
      (Scalar.remsi (BitVec.ofNat 32 g.val) 2#32)) 1#32 = BitVec.ofNat 1 (g.val % 2) := by decide
  exact h (i 1)

end Cert.KernelIdeal.Val

end
-- ==== Proof.AttnScores.lean ====
/- The attention's scratch arrays of scores and of the scores' maxima over a block of keys, as the body reads them back. -/
module

public import proofs.«01_k».proof.Proof.AttnQuery
public import proofs.«01_k».proof.Proof.Exponent

@[expose] public section

set_option maxRecDepth 16384

noncomputable section

namespace Cert.KernelIdeal.Val

open Idealize.ShloMosaic Idealize.ShloMosaic.TcCoe Cert.KernelIdeal

/-- A load of what covering stores left, every store's payload being `G` at its place. -/
theorem readCov_of_pieces {Val : EltTy → Type} [∀ e, Nonempty (Val e)] {sig : RefSig} {κ : Kind} {sp : Space} {s : Shape} {e : EltTy}
    (v : View sig κ sp s e) (L : List (View.Piece Val s e)) (r : Rect s) (G : s.Idx → Val e) (hc : ∀ y, ∃ p ∈ L, y ∈ p.1.set)
    (hp : ∀ p ∈ L, ∀ y, p.2 y = G (p.1.emb y)) : v.readCov L r.toLoadRect = fun j => G (r.emb j) := by
  rw [View.readCov_eq_canon_ld v L r hc]
  have h : ∀ L : List (View.Piece Val s e), (∀ p ∈ L, ∀ y, p.2 y = G (p.1.emb y)) → ∀ y, (∃ p ∈ L, y ∈ p.1.set) → View.canon L y = G y := by
    intro L
    induction L with
    | nil =>
      rintro - y ⟨p, hp, -⟩
      exact absurd hp (by simp)
    | cons p L ih =>
      intro hL y hy
      by_cases hm : y ∈ p.1.set
      · obtain ⟨x, -, rfl⟩ := Finset.mem_map.mp (p.1.map_emb_univ ▸ hm)
        exact (View.canon_cons_emb p.1 p.2 L x).trans (hL p (by simp) x)
      · rw [View.canon_cons_of_not_mem p L hm]
        refine ih (fun q hq => hL q (by simp [hq])) y ?_
        obtain ⟨q, hq, hyq⟩ := hy
        rcases List.mem_cons.mp hq with rfl | hq
        · exact absurd hyq hm
        · exact ⟨q, hq, hyq⟩
  exact funext fun j => h L hp _ (hc _)

variable (c : Dev nD) (i : grid3.Coords)
  (arg3 : Memref sig .tc .vmem S1x128x256 .fp8e4m3) (harg3 : arg3.IsWhole)
  (arg4 : Memref sig .tc .vmem S1x4096x128 .fp8e4m3) (harg4 : arg4.IsWhole)
  (arg10 : Memref sig .tc .vmem S4096x512 .f32) (arg11 : Memref sig .tc .vmem S32x512 .f32)
  (x0 : Vec Ideal S1x128x256 .fp8e4m3) (x1 : Vec Ideal S1x4096x128 .fp8e4m3)

/-- The head's place in its pair. -/
def par (i : grid3.Coords) : Fin 2 := ⟨(i 1).val % 2, Nat.mod_lt _ (by norm_num)⟩

theorem query_eq : Gen.kernelRun3_A.sl.v50 (F := Ideal) c i arg3 harg3 x0 = qallV (BitVec.ofNat 1 (par i).val) x0 := by
  have h : Gen.kernelRun3_A.sl.v50 (F := Ideal) c i arg3 harg3 x0 = qallV (Gen.kernelRun3_A.sl.v10 i)
      (arg3.view.readAt (Elt Ideal) (Rect.unit (s := S1x128x256) ![0, 0, 0] S1x128x256.size Gen.inb_S1x128x256_S1x128x256_0_0_0).toLoadRect (harg3.unread x0)) := rfl
  rw [h, odd_eq, View.readAt_eq_ld, harg3.read_unread, View.ld_unit_zero (by decide)]
  rfl

/-- The score of key `k` and row `j`. -/
def sc (k : Fin 4096) (j : Fin 512) : EReal := score (par i) x0 x1 k j

/-- What one chunk's store of scores holds. -/
theorem score_piece (off : ℕ) (h : ∀ a, (![0, off, 0] : Fin 3 → ℕ) a + S1x512x128.size a ≤ S1x4096x128.size a)
    (h' : ∀ a, (![off, 0] : Fin 2 → ℕ) a + S512x512.size a ≤ S4096x512.size a) (y : S512x512.Idx) :
    Gen.k3_pay30 (Gen.kernelRun3_A.sl.v50 (F := Ideal) c i arg3 harg3 x0)
        (arg4.view.readAt (Elt Ideal) (Rect.unit (s := S1x4096x128) ![0, off, 0] S1x512x128.size h).toLoadRect (harg4.unread x1)) y
      = (fun z : S4096x512.Idx => sc i x0 x1 (z 0) (z 1)) ((Rect.unit (s := S4096x512) ![off, 0] S512x512.size h').emb y) := by
  rw [query_eq, View.readAt_eq_ld, harg4.read_unread]
  idx_vars y
  have e : (Gen.k3_pay30 (qallV (BitVec.ofNat 1 (par i).val) x0) (View.ld x1 (Rect.unit (s := S1x4096x128) ![0, off, 0] S1x512x128.size h)) : FVec Ideal S512x512 .f32) (ix2 y0 y1)
      = (Gen.k3_pay29 (qallV (BitVec.ofNat 1 (par i).val) x0) (View.ld x1 (Rect.unit (s := S1x4096x128) ![0, off, 0] S1x512x128.size h)) : FVec Ideal S512x512 .f32) (ix2 y0 y1) := by
    unfold Gen.k3_pay30
    generalize (Gen.k3_pay29 (qallV (BitVec.ofNat 1 (par i).val) x0) (View.ld x1 (Rect.unit (s := S1x4096x128) ![0, off, 0] S1x512x128.size h)) : FVec Ideal S512x512 .f32) = v
    pointwise []
  rw [e, scores_apply]
  have e1 : (Rect.unit (s := S4096x512) ![off, 0] S512x512.size h').emb (ix2 y0 y1) = ix2 (⟨off + y0.val, by have := h' 0; change off + 512 ≤ 4096 at this; omega⟩ : Fin 4096) y1 := by
    funext a
    fin_cases a
    · exact Fin.ext (by show off + 1 * y0.val = off + y0.val; omega)
    · exact Fin.ext (by show 0 + 1 * y1.val = y1.val; omega)
  rw [e1]
  unfold sc score
  refine Finset.sum_congr rfl fun d _ => congrArg (· * _) (congrArg x1 ?_)
  funext a
  fin_cases a
  · rfl
  · exact Fin.ext (by show off + 1 * y0.val = off + y0.val; omega)
  · exact Fin.ext (by show 0 + 1 * ((par i).val * 64 + d.val) = (par i).val * 64 + d.val; omega)

/-- A load of 128 keys' scores. -/
theorem scores_read (n : Fin 32) (h : ∀ a, (![128 * n.val, 0] : Fin 2 → ℕ) a + S128x512.size a ≤ S4096x512.size a) :
    arg10.view.readCov (Gen.kernelRun3_A.sl.HS0_8 (F := Ideal) c i arg3 harg3 arg4 harg4 x0 x1) (Rect.unit (s := S4096x512) ![128 * n.val, 0] S128x512.size h).toLoadRect
      = fun y : S128x512.Idx => sc i x0 x1 ⟨128 * n.val + (y 0).val, by have := (y 0).isLt; change _ < 128 at this; omega⟩ (y 1) := by
  rw [readCov_of_pieces arg10.view _ _ (fun z : S4096x512.Idx => sc i x0 x1 (z 0) (z 1))
    (View.cover_of_tiledL _ S512x512.size (by sl_kernel_rfl))]
  · funext y
    have e1 : (Rect.unit (s := S4096x512) ![128 * n.val, 0] S128x512.size h).emb y = ix2 (⟨128 * n.val + (y 0).val, by have := (y 0).isLt; change _ < 128 at this; omega⟩ : Fin 4096) (y 1) := by
      funext a
      fin_cases a
      · exact Fin.ext (by show 128 * n.val + 1 * (y 0).val = 128 * n.val + (y 0).val; omega)
      · exact Fin.ext (by show 0 + 1 * (y 1).val = (y 1).val; omega)
    rw [e1]
    rfl
  · unfold Gen.kernelRun3_A.sl.HS0_8
    intro p hp
    simp only [List.mem_cons, List.not_mem_nil, or_false] at hp
    rcases hp with rfl | rfl | rfl | rfl | rfl | rfl | rfl | rfl
    all_goals exact score_piece c i arg3 harg3 arg4 harg4 x0 x1 _ (by decide) (by decide)

/-- The largest score of a block of 128 keys. -/
def smax (n : Fin 32) (j : Fin 512) : EReal :=
  Finset.univ.sup fun k : Fin 128 => sc i x0 x1 ⟨128 * n.val + k.val, by omega⟩ j

/-- What one chunk's store of maxima holds. -/
theorem max_piece (off' off : ℕ) (ho : off' = 128 * off) (h : ∀ a, (![0, off', 0] : Fin 3 → ℕ) a + S1x512x128.size a ≤ S1x4096x128.size a)
    (h' : ∀ a, (![off, 0] : Fin 2 → ℕ) a + S4x512.size a ≤ S32x512.size a) (y : S4x512.Idx) :
    Gen.k3_pay31 (Gen.kernelRun3_A.sl.v50 (F := Ideal) c i arg3 harg3 x0)
        (arg4.view.readAt (Elt Ideal) (Rect.unit (s := S1x4096x128) ![0, off', 0] S1x512x128.size h).toLoadRect (harg4.unread x1)) y
      = (fun z : S32x512.Idx => smax i x0 x1 (z 0) (z 1)) ((Rect.unit (s := S32x512) ![off, 0] S4x512.size h').emb y) := by
  subst ho
  have h0 : ∀ a, (![128 * off, 0] : Fin 2 → ℕ) a + S512x512.size a ≤ S4096x512.size a := by
    intro a
    have := h 1
    change 128 * off + 512 ≤ 4096 at this
    fin_cases a
    · exact this
    · exact le_refl 512
  have hs := score_piece c i arg3 harg3 arg4 harg4 x0 x1 (128 * off) h h0
  unfold Gen.k3_pay30 at hs
  unfold Gen.k3_pay31
  generalize Gen.k3_pay29 (Gen.kernelRun3_A.sl.v50 (F := Ideal) c i arg3 harg3 x0)
        (arg4.view.readAt (Elt Ideal) (Rect.unit (s := S1x4096x128) ![0, 128 * off, 0] S1x512x128.size h).toLoadRect (harg4.unread x1)) = v at hs ⊢
  idx_vars y
  have hv : ∀ k j : Fin 512, (v : FVec Ideal S512x512 .f32) (ix2 k j) = sc i x0 x1 ⟨128 * off + k.val, by have := h0 0; change 128 * off + 512 ≤ 4096 at this; omega⟩ j := by
    intro k j
    have h1 := hs (ix2 k j)
    have h2 : (shapeCast S512x512 v Gen.shapeCasts_S512x512_S512x512 : FVec Ideal S512x512 .f32) (ix2 k j) = v (ix2 k j) := by pointwise []
    refine h2.symm.trans (h1.trans ?_)
    refine congr (congrArg (sc i x0 x1) (Fin.ext ?_)) (Fin.ext ?_)
    · show 128 * off + 1 * k.val = 128 * off + k.val
      omega
    · show 0 + 1 * j.val = j.val
      omega
  pointwise []
  have e1 : (Rect.unit (s := S32x512) ![off, 0] S4x512.size h').emb (ix2 y0 y1) = ix2 (⟨off + y0.val, by have := h' 0; change off + 4 ≤ 32 at this; omega⟩ : Fin 32) y1 := by
    funext a
    fin_cases a
    · exact Fin.ext (by show off + 1 * y0.val = off + y0.val; omega)
    · exact Fin.ext (by show 0 + 1 * y1.val = y1.val; omega)
  change _ = smax i x0 x1 ((Rect.unit (s := S32x512) ![off, 0] S4x512.size h').emb (ix2 y0 y1) 0) ((Rect.unit (s := S32x512) ![off, 0] S4x512.size h').emb (ix2 y0 y1) 1)
  rw [e1]
  refine eq_of_forall_ge_iff fun z => ?_
  unfold smax
  rw [Finset.fold_max_le, Finset.sup_le_iff, Spec.ofBits_neg_inf]
  simp only [hv, bot_le, true_and]
  refine forall_congr' fun k => forall_congr' fun _ => ?_
  have e2 : (⟨128 * off + (y0.val * 128 + k.val), by have := h0 0; change 128 * off + 512 ≤ 4096 at this; omega⟩ : Fin 4096) = ⟨128 * (off + y0.val) + k.val, by have := h0 0; change 128 * off + 512 ≤ 4096 at this; omega⟩ := Fin.ext (by simp only; omega)
  exact iff_of_eq (congrArg (· ≤ z) (congrArg (sc i x0 x1 · y1) e2))

/-- The load of all the maxima. -/
theorem max_read : Gen.kernelRun3_A.sl.v151 (F := Ideal) c i arg3 harg3 arg4 harg4 arg11 x0 x1 = fun y : S32x512.Idx => smax i x0 x1 (y 0) (y 1) := by
  unfold Gen.kernelRun3_A.sl.v151
  rw [readCov_of_pieces arg11.view _ _ (fun z : S32x512.Idx => smax i x0 x1 (z 0) (z 1))
    (View.cover_of_tiledL _ S4x512.size (by sl_kernel_rfl))]
  · funext y
    have e1 : (Rect.unit (s := S32x512) ![0, 0] S32x512.size Gen.inb_S32x512_S32x512_0_0).emb y = y := by
      funext a
      fin_cases a
      · exact Fin.ext (by show 0 + 1 * (y 0).val = (y 0).val; omega)
      · exact Fin.ext (by show 0 + 1 * (y 1).val = (y 1).val; omega)
    rw [e1]
  · unfold Gen.kernelRun3_A.sl.HS1_8
    intro p hp
    simp only [List.mem_cons, List.not_mem_nil, or_false] at hp
    rcases hp with rfl | rfl | rfl | rfl | rfl | rfl | rfl | rfl
    · have e : Gen.kernelRun3_A.sl.v138 (F := Ideal) c i arg3 harg3 arg4 harg4 x0 x1 = Gen.k3_pay31 (Gen.kernelRun3_A.sl.v50 (F := Ideal) c i arg3 harg3 x0)
        (arg4.view.readAt (Elt Ideal) (Rect.unit (s := S1x4096x128) ![0, 3584, 0] S1x512x128.size Gen.inb_S1x4096x128_S1x512x128_0_3584_0).toLoadRect (harg4.unread x1)) := rfl
      rw [e]
      intro y
      have h5 := max_piece c i arg3 harg3 arg4 harg4 x0 x1 3584 28 (by norm_num) Gen.inb_S1x4096x128_S1x512x128_0_3584_0 (by decide) y
      dsimp only at h5 ⊢
      refine Eq.trans ?_ (h5.trans ?_)
      · rfl
      · rfl
    · have e : Gen.kernelRun3_A.sl.v127 (F := Ideal) c i arg3 harg3 arg4 harg4 x0 x1 = Gen.k3_pay31 (Gen.kernelRun3_A.sl.v50 (F := Ideal) c i arg3 harg3 x0)
        (arg4.view.readAt (Elt Ideal) (Rect.unit (s := S1x4096x128) ![0, 3072, 0] S1x512x128.size Gen.inb_S1x4096x128_S1x512x128_0_3072_0).toLoadRect (harg4.unread x1)) := rfl
      rw [e]
      intro y
      have h5 := max_piece c i arg3 harg3 arg4 harg4 x0 x1 3072 24 (by norm_num) Gen.inb_S1x4096x128_S1x512x128_0_3072_0 (by decide) y
      dsimp only at h5 ⊢
      refine Eq.trans ?_ (h5.trans ?_)
      · rfl
      · rfl
    · have e : Gen.kernelRun3_A.sl.v116 (F := Ideal) c i arg3 harg3 arg4 harg4 x0 x1 = Gen.k3_pay31 (Gen.kernelRun3_A.sl.v50 (F := Ideal) c i arg3 harg3 x0)
        (arg4.view.readAt (Elt Ideal) (Rect.unit (s := S1x4096x128) ![0, 2560, 0] S1x512x128.size Gen.inb_S1x4096x128_S1x512x128_0_2560_0).toLoadRect (harg4.unread x1)) := rfl
      rw [e]
      intro y
      have h5 := max_piece c i arg3 harg3 arg4 harg4 x0 x1 2560 20 (by norm_num) Gen.inb_S1x4096x128_S1x512x128_0_2560_0 (by decide) y
      dsimp only at h5 ⊢
      refine Eq.trans ?_ (h5.trans ?_)
      · rfl
      · rfl
    · have e : Gen.kernelRun3_A.sl.v105 (F := Ideal) c i arg3 harg3 arg4 harg4 x0 x1 = Gen.k3_pay31 (Gen.kernelRun3_A.sl.v50 (F := Ideal) c i arg3 harg3 x0)
        (arg4.view.readAt (Elt Ideal) (Rect.unit (s := S1x4096x128) ![0, 2048, 0] S1x512x128.size Gen.inb_S1x4096x128_S1x512x128_0_2048_0).toLoadRect (harg4.unread x1)) := rfl
      rw [e]
      intro y
      have h5 := max_piece c i arg3 harg3 arg4 harg4 x0 x1 2048 16 (by norm_num) Gen.inb_S1x4096x128_S1x512x128_0_2048_0 (by decide) y
      dsimp only at h5 ⊢
      refine Eq.trans ?_ (h5.trans ?_)
      · rfl
      · rfl
    · have e : Gen.kernelRun3_A.sl.v94 (F := Ideal) c i arg3 harg3 arg4 harg4 x0 x1 = Gen.k3_pay31 (Gen.kernelRun3_A.sl.v50 (F := Ideal) c i arg3 harg3 x0)
        (arg4.view.readAt (Elt Ideal) (Rect.unit (s := S1x4096x128) ![0, 1536, 0] S1x512x128.size Gen.inb_S1x4096x128_S1x512x128_0_1536_0).toLoadRect (harg4.unread x1)) := rfl
      rw [e]
      intro y
      have h5 := max_piece c i arg3 harg3 arg4 harg4 x0 x1 1536 12 (by norm_num) Gen.inb_S1x4096x128_S1x512x128_0_1536_0 (by decide) y
      dsimp only at h5 ⊢
      refine Eq.trans ?_ (h5.trans ?_)
      · rfl
      · rfl
    · have e : Gen.kernelRun3_A.sl.v83 (F := Ideal) c i arg3 harg3 arg4 harg4 x0 x1 = Gen.k3_pay31 (Gen.kernelRun3_A.sl.v50 (F := Ideal) c i arg3 harg3 x0)
        (arg4.view.readAt (Elt Ideal) (Rect.unit (s := S1x4096x128) ![0, 1024, 0] S1x512x128.size Gen.inb_S1x4096x128_S1x512x128_0_1024_0).toLoadRect (harg4.unread x1)) := rfl
      rw [e]
      intro y
      have h5 := max_piece c i arg3 harg3 arg4 harg4 x0 x1 1024 8 (by norm_num) Gen.inb_S1x4096x128_S1x512x128_0_1024_0 (by decide) y
      dsimp only at h5 ⊢
      refine Eq.trans ?_ (h5.trans ?_)
      · rfl
      · rfl
    · have e : Gen.kernelRun3_A.sl.v72 (F := Ideal) c i arg3 harg3 arg4 harg4 x0 x1 = Gen.k3_pay31 (Gen.kernelRun3_A.sl.v50 (F := Ideal) c i arg3 harg3 x0)
        (arg4.view.readAt (Elt Ideal) (Rect.unit (s := S1x4096x128) ![0, 512, 0] S1x512x128.size Gen.inb_S1x4096x128_S1x512x128_0_512_0).toLoadRect (harg4.unread x1)) := rfl
      rw [e]
      intro y
      have h5 := max_piece c i arg3 harg3 arg4 harg4 x0 x1 512 4 (by norm_num) Gen.inb_S1x4096x128_S1x512x128_0_512_0 (by decide) y
      dsimp only at h5 ⊢
      refine Eq.trans ?_ (h5.trans ?_)
      · rfl
      · rfl
    · have e : Gen.kernelRun3_A.sl.v61 (F := Ideal) c i arg3 harg3 arg4 harg4 x0 x1 = Gen.k3_pay31 (Gen.kernelRun3_A.sl.v50 (F := Ideal) c i arg3 harg3 x0)
        (arg4.view.readAt (Elt Ideal) (Rect.unit (s := S1x4096x128) ![0, 0, 0] S1x512x128.size Gen.inb_S1x4096x128_S1x512x128_0_0_0).toLoadRect (harg4.unread x1)) := rfl
      rw [e]
      intro y
      have h5 := max_piece c i arg3 harg3 arg4 harg4 x0 x1 0 0 (by norm_num) Gen.inb_S1x4096x128_S1x512x128_0_0_0 (by decide) y
      dsimp only at h5 ⊢
      refine Eq.trans ?_ (h5.trans ?_)
      · rfl
      · rfl

end Cert.KernelIdeal.Val

end
-- ==== Proof.AttnRows.lean ====
/- The attention's scratch rows: what the scores of a block of keys are multiplied and shifted by, and the scales of its
   probabilities. -/
module

public import proofs.«01_k».proof.Proof.AttnScores

@[expose] public section

set_option maxRecDepth 16384

noncomputable section

namespace Cert.KernelIdeal.Val

open Idealize.ShloMosaic Idealize.ShloMosaic.TcCoe Cert.KernelIdeal

/-- A row read back from an array one store covered. -/
theorem row_read {Val : EltTy → Type} [∀ e, Nonempty (Val e)] {sig : RefSig} {κ : Kind} {sp : Space} {e : EltTy}
    (v : View sig κ sp S32x512 e) (P : S32x512.Idx → Val e) (h0 : ∀ a, (![0, 0] : Fin 2 → ℕ) a + S32x512.size a ≤ S32x512.size a)
    (n : Fin 32) (h : ∀ a, (![n.val, 0] : Fin 2 → ℕ) a + S1x512.size a ≤ S32x512.size a) :
    v.readCov [⟨Rect.unit (s := S32x512) ![0, 0] S32x512.size h0, P⟩] (Rect.unit (s := S32x512) ![n.val, 0] S1x512.size h).toLoadRect
      = fun y : S1x512.Idx => P (ix2 n (y 1)) := by
  have e0 : ∀ y, (Rect.unit (s := S32x512) ![0, 0] S32x512.size h0).emb y = y := by
    intro y
    funext a
    fin_cases a
    · exact Fin.ext (by show 0 + 1 * (y 0).val = (y 0).val; omega)
    · exact Fin.ext (by show 0 + 1 * (y 1).val = (y 1).val; omega)
  rw [readCov_of_pieces v _ _ P]
  · funext y
    refine congrArg P ?_
    funext a
    fin_cases a
    · refine Fin.ext ?_
      show n.val + 1 * (y 0).val = n.val
      have : (y 0).val < 1 := (y 0).isLt
      omega
    · exact Fin.ext (by show 0 + 1 * (y 1).val = (y 1).val; omega)
  · intro y
    refine ⟨_, List.mem_singleton.mpr rfl, ?_⟩
    rw [← Rect.map_emb_univ]
    exact Finset.mem_map.mpr ⟨y, Finset.mem_univ _, e0 y⟩
  · intro p hp y
    rw [List.mem_singleton] at hp
    subst hp
    exact congrArg P (e0 y).symm

/-- The factor of the scores of key block `n` and row `L`. -/
def fac (x3 : Vec Ideal S1x1x1x1x512 .f32) (x4 : Vec Ideal S1x1x32x128 .f32) (n : Fin 32) (L : Fin 512) : EReal :=
  ((x3 (ix5 0 0 0 0 L) : EReal) * x4 (ix4 0 0 n (⟨L.val % 128, Nat.mod_lt _ (by norm_num)⟩ : Fin 128))) * Ideal.ofBits .f32 0x3E000000#32

theorem vs_eq (x5 : Vec Ideal S1x1x32x128 .f32) (n : Fin 32) (L : Fin 512) :
    (Gen.k3_pay32 x5 : FVec Ideal S32x512 .f32) (ix2 n L) = x5 (ix4 0 0 n (⟨L.val % 128, Nat.mod_lt _ (by norm_num)⟩ : Fin 128)) := by
  pointwise! [Gen.k3_pay32]
  split_ifs
  all_goals exact congrArg x5 (congrArg (ix4 0 0 n) (Fin.ext (by simp only []; omega)))

theorem fac_eq (x3 : Vec Ideal S1x1x1x1x512 .f32) (x4 : Vec Ideal S1x1x32x128 .f32) (n : Fin 32) (L : Fin 512) :
    (Gen.k3_pay33 x4 x3 : FVec Ideal S32x512 .f32) (ix2 n L) = fac x3 x4 n L := by
  have h : (Gen.k3_pay33 x4 x3 : FVec Ideal S32x512 .f32) = mulf (mulf (broadcastTo S32x512 (shapeCast S1x512 x3 Gen.shapeCasts_S1x1x1x1x512_S1x512 : FVec Ideal S1x512 .f32) Gen.broadcasts_S1x512_S32x512) (Gen.k3_pay32 x4)) (broadcast S32x512 (Scalar.ofBits (F := Ideal) .f32 0x3E000000#32)) := rfl
  unfold fac
  rw [h, ← vs_eq x4 n L]
  generalize Gen.k3_pay32 x4 = v
  pointwise! []

/-- The maximum over the key blocks. -/
theorem colmax_eq (v : FVec Ideal S32x512 .f32) (L : Fin 512) :
    (shapeCast S1x512 (multiReduction .maximumf [0] S512 v 0xFF800000#32 Gen.reduces_S32x512_S512 (.inl rfl) rfl) Gen.shapeCasts_S512_S1x512
      : FVec Ideal S1x512 .f32) (ix2 0 L) = Finset.univ.sup fun n : Fin 32 => (v (ix2 n L) : EReal) := by
  pointwise []
  refine eq_of_forall_ge_iff fun z => ?_
  rw [Finset.fold_max_le, Finset.sup_le_iff, Spec.ofBits_neg_inf]
  simp

/-- The logarithm's factor. -/
def log2e : EReal := (((Real.log 2)⁻¹ : ℝ) : EReal)

theorem log2e_eq : (Named.named κ "log2e" (0x3FB8AA3B#32 : BitVec (FTy.bits .f32)) : Ideal .f32) = log2e :=
  IdealRules.named_const.ideal_named_scalar _ _ _ _ rfl

/-- The scaled scores' maximum over the key blocks, and the block's largest probability against it. -/
theorem prob_eq (x3 : Vec Ideal S1x1x1x1x512 .f32) (x4 : Vec Ideal S1x1x32x128 .f32) (w : Vec Ideal S32x512 .f32) (n : Fin 32) (L : Fin 512) :
    (Gen.k3_pay36 x4 x3 w : FVec Ideal S32x512 .f32) (ix2 n L)
      = Ideal.exp ((w (ix2 n L) : EReal) * fac x3 x4 n L - Finset.univ.sup fun m : Fin 32 => (w (ix2 m L) : EReal) * fac x3 x4 m L) := by
  have h1 : ∀ m L, (Gen.k3_pay34 x4 x3 w : FVec Ideal S32x512 .f32) (ix2 m L) = (w (ix2 m L) : EReal) * fac x3 x4 m L := by
    intro m L
    rw [← fac_eq]
    rfl
  have h2 : (Gen.k3_pay35 x4 x3 w : FVec Ideal S1x512 .f32) (ix2 0 L) = Finset.univ.sup fun m : Fin 32 => (w (ix2 m L) : EReal) * fac x3 x4 m L := by
    refine (colmax_eq (Gen.k3_pay34 x4 x3 w) L).trans ?_
    exact Finset.sup_congr rfl fun m _ => h1 m L
  rw [← h1, ← h2]
  unfold Gen.k3_pay36
  generalize Gen.k3_pay34 x4 x3 w = a
  generalize Gen.k3_pay35 x4 x3 w = b
  pointwise []

variable (c : Dev nD) (i : grid3.Coords)
  (arg3 : Memref sig .tc .vmem S1x128x256 .fp8e4m3) (harg3 : arg3.IsWhole)
  (arg4 : Memref sig .tc .vmem S1x4096x128 .fp8e4m3) (harg4 : arg4.IsWhole)
  (arg6 : Memref sig .tc .vmem S1x1x1x1x512 .f32) (harg6 : arg6.IsWhole)
  (arg7 : Memref sig .tc .vmem S1x1x32x128 .f32) (harg7 : arg7.IsWhole)
  (arg8 : Memref sig .tc .vmem S1x1x32x128 .f32) (harg8 : arg8.IsWhole)
  (arg11 arg12 arg13 arg14 arg15 : Memref sig .tc .vmem S32x512 .f32)
  (x0 : Vec Ideal S1x128x256 .fp8e4m3) (x1 : Vec Ideal S1x4096x128 .fp8e4m3)
  (x3 : Vec Ideal S1x1x1x1x512 .f32) (x4 : Vec Ideal S1x1x32x128 .f32) (x5 : Vec Ideal S1x1x32x128 .f32)

/-- A row's largest scaled score. -/
def rmax (L : Fin 512) : EReal := Finset.univ.sup fun m : Fin 32 => smax i x0 x1 m L * fac x3 x4 m L

/-- A block's largest probability before the division. -/
def ptop (n : Fin 32) (L : Fin 512) : EReal := Ideal.exp (smax i x0 x1 n L * fac x3 x4 n L - rmax i x0 x1 x3 x4 L)

/-- The exponent of the block's probabilities. -/
def pexp (n : Fin 32) (L : Fin 512) : BitVec 32 := Spec.kexp (ptop i x0 x1 x3 x4 n L)

theorem v139_eq : (arg7.view.readAt (Elt Ideal) (Rect.unit (s := S1x1x32x128) ![0, 0, 0, 0] S1x1x32x128.size Gen.inb_S1x1x32x128_S1x1x32x128_0_0_0_0).toLoadRect (harg7.unread x4)) = x4 := by
  rw [View.readAt_eq_ld, harg7.read_unread, View.ld_unit_zero (by decide)]

theorem v145_eq : (arg6.view.readAt (Elt Ideal) (Rect.unit (s := S1x1x1x1x512) ![0, 0, 0, 0, 0] S1x1x1x1x512.size Gen.inb_S1x1x1x1x512_S1x1x1x1x512_0_0_0_0_0).toLoadRect (harg6.unread x3)) = x3 := by
  rw [View.readAt_eq_ld, harg6.read_unread, View.ld_unit_zero (by decide)]

theorem v150_eq : Gen.kernelRun3_A.sl.v150 (F := Ideal) c arg6 harg6 arg7 harg7 x3 x4 = Gen.k3_pay33 x4 x3 := by
  have h : Gen.kernelRun3_A.sl.v150 (F := Ideal) c arg6 harg6 arg7 harg7 x3 x4
    = Gen.k3_pay33 (arg7.view.readAt (Elt Ideal) (Rect.unit (s := S1x1x32x128) ![0, 0, 0, 0] S1x1x32x128.size Gen.inb_S1x1x32x128_S1x1x32x128_0_0_0_0).toLoadRect (harg7.unread x4))
      (arg6.view.readAt (Elt Ideal) (Rect.unit (s := S1x1x1x1x512) ![0, 0, 0, 0, 0] S1x1x1x1x512.size Gen.inb_S1x1x1x1x512_S1x1x1x1x512_0_0_0_0_0).toLoadRect (harg6.unread x3)) := rfl
  rw [h, v139_eq, v145_eq]

theorem v144_eq : Gen.kernelRun3_A.sl.v144 (F := Ideal) c arg8 harg8 x5 = Gen.k3_pay32 x5 := by
  have h : Gen.kernelRun3_A.sl.v144 (F := Ideal) c arg8 harg8 x5
    = Gen.k3_pay32 (arg8.view.readAt (Elt Ideal) (Rect.unit (s := S1x1x32x128) ![0, 0, 0, 0] S1x1x32x128.size Gen.inb_S1x1x32x128_S1x1x32x128_0_0_0_0).toLoadRect (harg8.unread x5)) := rfl
  rw [h, v139_eq]

/-- The maxima the body reads back, as a vector. -/
def smaxV : Vec Ideal S32x512 .f32 := fun y : S32x512.Idx => smax i x0 x1 (y 0) (y 1)

theorem v154_eq : Gen.kernelRun3_A.sl.v154 (F := Ideal) c i arg3 harg3 arg4 harg4 arg6 harg6 arg7 harg7 arg11 x0 x1 x3 x4 = Gen.k3_pay35 x4 x3 (smaxV i x0 x1) := by
  have h : Gen.kernelRun3_A.sl.v154 (F := Ideal) c i arg3 harg3 arg4 harg4 arg6 harg6 arg7 harg7 arg11 x0 x1 x3 x4
    = shapeCast S1x512 (multiReduction .maximumf [0] S512 (mulf (Gen.kernelRun3_A.sl.v151 (F := Ideal) c i arg3 harg3 arg4 harg4 arg11 x0 x1) (Gen.kernelRun3_A.sl.v150 (F := Ideal) c arg6 harg6 arg7 harg7 x3 x4)) 0xFF800000#32 Gen.reduces_S32x512_S512 (.inl rfl) rfl) Gen.shapeCasts_S512_S1x512 := rfl
  rw [h, v150_eq, max_read]
  rfl

theorem v157_eq : Gen.kernelRun3_A.sl.v157 (F := Ideal) c i arg3 harg3 arg4 harg4 arg6 harg6 arg7 harg7 arg11 x0 x1 x3 x4 = Gen.k3_pay36 x4 x3 (smaxV i x0 x1) := by
  have h : Gen.kernelRun3_A.sl.v157 (F := Ideal) c i arg3 harg3 arg4 harg4 arg6 harg6 arg7 harg7 arg11 x0 x1 x3 x4
    = exp (subf (mulf (Gen.kernelRun3_A.sl.v151 (F := Ideal) c i arg3 harg3 arg4 harg4 arg11 x0 x1) (Gen.kernelRun3_A.sl.v150 (F := Ideal) c arg6 harg6 arg7 harg7 x3 x4))
       (broadcastTo S32x512 (Gen.kernelRun3_A.sl.v154 (F := Ideal) c i arg3 harg3 arg4 harg4 arg6 harg6 arg7 harg7 arg11 x0 x1 x3 x4) Gen.broadcasts_S1x512_S32x512)) := rfl
  rw [h, v154_eq, v150_eq, max_read]
  rfl

/-- The probabilities' exponents, as a vector. -/
def expV : IVec S32x512 32 := Spec.expoV (Gen.k3_pay36 x4 x3 (smaxV i x0 x1))

theorem expV_apply (n : Fin 32) (L : Fin 512) : expV i x0 x1 x3 x4 (ix2 n L) = pexp i x0 x1 x3 x4 n L := by
  unfold expV
  rw [Spec.expoV_apply, prob_eq]
  rfl

theorem v222_eq : Gen.k3_pay42 (F := Ideal) (Gen.kernelRun3_A.sl.v157 (F := Ideal) c i arg3 harg3 arg4 harg4 arg6 harg6 arg7 harg7 arg11 x0 x1 x3 x4)
    (Gen.kernelRun3_A.sl.v159 (F := Ideal) c i arg3 harg3 arg4 harg4 arg6 harg6 arg7 harg7 arg11 x0 x1 x3 x4)
    (Gen.kernelRun3_A.sl.v202 (F := Ideal) c i arg3 harg3 arg4 harg4 arg6 harg6 arg7 harg7 arg11 x0 x1 x3 x4)
    (Gen.kernelRun3_A.sl.v204 (F := Ideal) c i arg3 harg3 arg4 harg4 arg6 harg6 arg7 harg7 arg11 x0 x1 x3 x4)
    (Gen.kernelRun3_A.sl.v207 (F := Ideal) c i arg3 harg3 arg4 harg4 arg6 harg6 arg7 harg7 arg11 x0 x1 x3 x4) = expV i x0 x1 x3 x4 := by
  unfold expV
  rw [← v157_eq c i arg3 harg3 arg4 harg4 arg6 harg6 arg7 harg7 arg11 x0 x1 x3 x4]
  rfl

/-- The rows the scores are multiplied by. -/
theorem mul_row (n : Fin 32) (h : ∀ a, (![n.val, 0] : Fin 2 → ℕ) a + S1x512.size a ≤ S32x512.size a) :
    arg12.view.readCov (Gen.kernelRun3_A.sl.HS2_1 (F := Ideal) c arg6 harg6 arg7 harg7 x3 x4) (Rect.unit (s := S32x512) ![n.val, 0] S1x512.size h).toLoadRect
      = fun y : S1x512.Idx => fac x3 x4 n (y 1) * log2e := by
  unfold Gen.kernelRun3_A.sl.HS2_1
  rw [row_read, v150_eq]
  funext y
  idx_vars y
  rw [← fac_eq, ← log2e_eq]
  unfold Gen.k3_pay44
  generalize Gen.k3_pay33 x4 x3 = v
  pointwise []

/-- The rows subtracted from the scores. -/
theorem sub_row (n : Fin 32) (h : ∀ a, (![n.val, 0] : Fin 2 → ℕ) a + S1x512.size a ≤ S32x512.size a) :
    arg13.view.readCov (Gen.kernelRun3_A.sl.HS3_1 (F := Ideal) c i arg3 harg3 arg4 harg4 arg6 harg6 arg7 harg7 arg11 x0 x1 x3 x4) (Rect.unit (s := S32x512) ![n.val, 0] S1x512.size h).toLoadRect
      = fun y : S1x512.Idx => rmax i x0 x1 x3 x4 (y 1) * log2e + (((pexp i x0 x1 x3 x4 n (y 1)).toInt : ℝ) : EReal) := by
  unfold Gen.kernelRun3_A.sl.HS3_1
  rw [row_read]
  funext y
  idx_vars y
  unfold Gen.k3_pay45
  rw [v222_eq, v154_eq]
  have e1 : rmax i x0 x1 x3 x4 y1 = (Gen.k3_pay35 x4 x3 (smaxV i x0 x1) : FVec Ideal S1x512 .f32) (ix2 0 y1) := by
    refine Eq.trans ?_ (colmax_eq (Gen.k3_pay34 x4 x3 (smaxV i x0 x1)) y1).symm
    refine Finset.sup_congr rfl fun m _ => ?_
    rw [← fac_eq]
    rfl
  show _ = rmax i x0 x1 x3 x4 y1 * log2e + (((pexp i x0 x1 x3 x4 n y1).toInt : ℝ) : EReal)
  rw [e1, ← expV_apply, ← log2e_eq]
  generalize Gen.k3_pay35 x4 x3 (smaxV i x0 x1) = v
  generalize expV i x0 x1 x3 x4 = e
  pointwise []
  rfl

theorem pay43_eq (e : IVec S32x512 32) (y : S32x512.Idx) :
    (bitcastToFloat (F := Ideal) .f32 (shli (addi e (broadcast S32x512 127#32)) (broadcast S32x512 23#32)) : FVec Ideal S32x512 .f32) y = Spec.pow2 (e y) := by
  pointwise []
  rfl

/-- The scales of the sums. -/
theorem scale_row (n : Fin 32) (h : ∀ a, (![n.val, 0] : Fin 2 → ℕ) a + S1x512.size a ≤ S32x512.size a) :
    arg14.view.readCov (Gen.kernelRun3_A.sl.HS4_1 (F := Ideal) c i arg3 harg3 arg4 harg4 arg6 harg6 arg7 harg7 arg11 x0 x1 x3 x4) (Rect.unit (s := S32x512) ![n.val, 0] S1x512.size h).toLoadRect
      = fun y : S1x512.Idx => Spec.pow2 (pexp i x0 x1 x3 x4 n (y 1)) := by
  unfold Gen.kernelRun3_A.sl.HS4_1
  rw [row_read]
  funext y
  idx_vars y
  unfold Gen.k3_pay46 Gen.k3_pay43
  rw [v222_eq]
  show _ = Spec.pow2 (pexp i x0 x1 x3 x4 n y1)
  rw [← expV_apply, ← pay43_eq]
  generalize expV i x0 x1 x3 x4 = e
  pointwise []

/-- The scales of the products with the values. -/
theorem out_row (n : Fin 32) (h : ∀ a, (![n.val, 0] : Fin 2 → ℕ) a + S1x512.size a ≤ S32x512.size a) :
    arg15.view.readCov (Gen.kernelRun3_A.sl.HS5_1 (F := Ideal) c i arg3 harg3 arg4 harg4 arg6 harg6 arg7 harg7 arg8 harg8 arg11 x0 x1 x3 x4 x5) (Rect.unit (s := S32x512) ![n.val, 0] S1x512.size h).toLoadRect
      = fun y : S1x512.Idx => Spec.pow2 (pexp i x0 x1 x3 x4 n (y 1)) * x5 (ix4 0 0 n (⟨(y 1).val % 128, Nat.mod_lt _ (by norm_num)⟩ : Fin 128)) := by
  unfold Gen.kernelRun3_A.sl.HS5_1
  rw [row_read]
  funext y
  idx_vars y
  unfold Gen.kernelRun3_A.sl.r_1 Gen.k3_pay47 Gen.k3_pay43
  rw [v222_eq, v144_eq]
  show _ = Spec.pow2 (pexp i x0 x1 x3 x4 n y1) * x5 (ix4 0 0 n (⟨y1.val % 128, Nat.mod_lt _ (by norm_num)⟩ : Fin 128))
  rw [← expV_apply, ← pay43_eq, ← vs_eq x5 n y1]
  generalize expV i x0 x1 x3 x4 = e
  generalize Gen.k3_pay32 x5 = w
  pointwise []

end Cert.KernelIdeal.Val

end
-- ==== Proof.AttnFold.lean ====
/- The attention's running sums: what each of the 32 blocks of keys adds, and what the sums hold after the last. -/
module

public import proofs.«01_k».proof.Proof.AttnRows

@[expose] public section

set_option maxRecDepth 16384

noncomputable section

namespace Cert.KernelIdeal.Val

open Idealize.ShloMosaic Idealize.ShloMosaic.TcCoe Cert.KernelIdeal

/-- The sum over the first `n` of 32. -/
def upto (n : ℕ) (f : Fin 32 → EReal) : EReal := ∑ m ∈ Finset.univ.filter (fun m : Fin 32 => m.val < n), f m

theorem upto_zero (f : Fin 32 → EReal) : upto 0 f = 0 := by simp [upto]

theorem upto_succ (n : Fin 32) (f : Fin 32 → EReal) : upto (n.val + 1) f = upto n.val f + f n := by
  have h : Finset.univ.filter (fun m : Fin 32 => m.val < n.val + 1) = insert n (Finset.univ.filter (fun m : Fin 32 => m.val < n.val)) := by
    ext m
    simp only [Finset.mem_filter, Finset.mem_univ, true_and, Finset.mem_insert, Fin.ext_iff]
    omega
  rw [upto, h, Finset.sum_insert (by simp), add_comm]
  rfl

theorem upto_all (f : Fin 32 → EReal) : upto 32 f = ∑ m, f m := by
  rw [upto, Finset.filter_true_of_mem fun m _ => m.isLt]

/-- The probabilities of a block, over the block's power of two. -/
def probV (s : FVec Ideal S128x512 .f32) (c1 c2 : FVec Ideal S1x512 .f32) : FVec Ideal S128x512 .f32 :=
  exp2 (subf (mulf s (broadcastTo S128x512 c1 Gen.broadcasts_S1x512_S128x512)) (broadcastTo S128x512 c2 Gen.broadcasts_S1x512_S128x512))

/-- One block's step of the sum of probabilities. -/
def lstepV (s : FVec Ideal S128x512 .f32) (c1 c2 ps : FVec Ideal S1x512 .f32) (lp : FVec Ideal S8x512 .f32) : FVec Ideal S8x512 .f32 :=
  addf lp (mulf (multiReduction .add [0] S8x512 (shapeCast S16x8x512 (probV s c1 c2) Gen.shapeCasts_S128x512_S16x8x512) 0x00000000#32 Gen.reduces_S16x8x512_S8x512 (.inl rfl) rfl)
    (broadcastTo S8x512 ps Gen.broadcasts_S1x512_S8x512))

/-- One block's step of the sum of products. -/
def ostepV (s : FVec Ideal S128x512 .f32) (c1 c2 : FVec Ideal S1x512 .f32) (v : Vec Ideal S1x64x128 .fp8e4m3) (f : FVec Ideal S1x512 .f32) (op : FVec Ideal S64x512 .f32) : FVec Ideal S64x512 .f32 :=
  addf op (mulf (matmul dot_S64x128_S128x512_S64x512_1_0_0_1_n_n none (shapeCast S64x128 v Gen.shapeCasts_S1x64x128_S64x128 : FVec Ideal S64x128 .fp8e4m3)
      (truncf .fp8e4m3 (minimumf (broadcast S128x512 (Scalar.ofBits (F := Ideal) .f32 0x43E00000#32)) (maximumf (broadcast S128x512 (Scalar.ofBits (F := Ideal) .f32 0xC3E00000#32)) (probV s c1 c2))) Gen.bitsLt_fp8e4m3_f32)
      (constant (F := Ideal) S64x512 .f32 0x00000000#32))
    (broadcastTo S64x512 f Gen.broadcasts_S1x512_S64x512))

theorem probV_apply (s : FVec Ideal S128x512 .f32) (c1 c2 : FVec Ideal S1x512 .f32) (j : Fin 128) (L : Fin 512) :
    probV s c1 c2 (ix2 j L) = Ideal.exp2 ((s (ix2 j L) : EReal) * c1 (ix2 0 L) - c2 (ix2 0 L)) := by
  pointwise [probV]
  rfl

theorem lstepV_apply (s : FVec Ideal S128x512 .f32) (c1 c2 ps : FVec Ideal S1x512 .f32) (lp : FVec Ideal S8x512 .f32) (r : Fin 8) (L : Fin 512) :
    lstepV s c1 c2 ps lp (ix2 r L) = (lp (ix2 r L) : EReal) + (∑ u : Fin 16, (probV s c1 c2 (ix2 (⟨8 * u.val + r.val, by omega⟩ : Fin 128) L) : EReal)) * ps (ix2 0 L) := by
  unfold lstepV
  generalize probV s c1 c2 = p
  pointwise! []

theorem ostepV_apply (s : FVec Ideal S128x512 .f32) (c1 c2 : FVec Ideal S1x512 .f32) (v : Vec Ideal S1x64x128 .fp8e4m3) (f : FVec Ideal S1x512 .f32) (op : FVec Ideal S64x512 .f32) (d : Fin 64) (L : Fin 512) :
    ostepV s c1 c2 v f op (ix2 d L) = (op (ix2 d L) : EReal)
      + (∑ j : Fin 128, (v (ix3 0 d j) : EReal) * min Spec.hi (max Spec.lo (probV s c1 c2 (ix2 j L)))) * f (ix2 0 L) := by
  unfold ostepV
  generalize probV s c1 c2 = p
  pointwise! []

variable (c : Dev nD) (i : grid3.Coords)
  (arg3 : Memref sig .tc .vmem S1x128x256 .fp8e4m3) (harg3 : arg3.IsWhole)
  (arg4 : Memref sig .tc .vmem S1x4096x128 .fp8e4m3) (harg4 : arg4.IsWhole)
  (arg5 : Memref sig .tc .vmem S1x64x4096 .fp8e4m3) (harg5 : arg5.IsWhole)
  (arg6 : Memref sig .tc .vmem S1x1x1x1x512 .f32) (harg6 : arg6.IsWhole)
  (arg7 : Memref sig .tc .vmem S1x1x32x128 .f32) (harg7 : arg7.IsWhole)
  (arg8 : Memref sig .tc .vmem S1x1x32x128 .f32) (harg8 : arg8.IsWhole)
  (arg10 : Memref sig .tc .vmem S4096x512 .f32) (arg11 arg12 arg13 arg14 arg15 : Memref sig .tc .vmem S32x512 .f32)
  (x0 : Vec Ideal S1x128x256 .fp8e4m3) (x1 : Vec Ideal S1x4096x128 .fp8e4m3) (x2 : Vec Ideal S1x64x4096 .fp8e4m3)
  (x3 : Vec Ideal S1x1x1x1x512 .f32) (x4 : Vec Ideal S1x1x32x128 .f32) (x5 : Vec Ideal S1x1x32x128 .f32)

/-- A probability of block `n`, over the block's power of two. -/
def prob (n : Fin 32) (j : Fin 128) (L : Fin 512) : EReal :=
  Ideal.exp2 (sc i x0 x1 ⟨128 * n.val + j.val, by omega⟩ L * (fac x3 x4 n L * log2e)
    - (rmax i x0 x1 x3 x4 L * log2e + (((pexp i x0 x1 x3 x4 n L).toInt : ℝ) : EReal)))

/-- What block `n` adds to the sum of probabilities. -/
def lterm (r : Fin 8) (L : Fin 512) (n : Fin 32) : EReal :=
  (∑ u : Fin 16, prob i x0 x1 x3 x4 n (⟨8 * u.val + r.val, by omega⟩ : Fin 128) L) * Spec.pow2 (pexp i x0 x1 x3 x4 n L)

/-- What block `n` adds to the sum of products. -/
def oterm (d : Fin 64) (L : Fin 512) (n : Fin 32) : EReal :=
  (∑ j : Fin 128, (x2 (ix3 0 d (⟨128 * n.val + j.val, by omega⟩ : Fin 4096)) : EReal) * min Spec.hi (max Spec.lo (prob i x0 x1 x3 x4 n j L)))
    * (Spec.pow2 (pexp i x0 x1 x3 x4 n L) * x5 (ix4 0 0 n (⟨L.val % 128, Nat.mod_lt _ (by norm_num)⟩ : Fin 128)))

/-- The sum of probabilities after `n` blocks. -/
def lsum (n : ℕ) : FVec Ideal S8x512 .f32 := fun y : S8x512.Idx => upto n (lterm i x0 x1 x3 x4 (y 0) (y 1))

/-- The sum of products after `n` blocks. -/
def osum (n : ℕ) : FVec Ideal S64x512 .f32 := fun y : S64x512.Idx => upto n (oterm i x0 x1 x2 x3 x4 x5 (y 0) (y 1))

theorem probV_eq (n : Fin 32) (s : FVec Ideal S128x512 .f32) (c1 c2 : FVec Ideal S1x512 .f32)
    (hs : s = fun y : S128x512.Idx => sc i x0 x1 ⟨128 * n.val + (y 0).val, by have := (y 0).isLt; change _ < 128 at this; omega⟩ (y 1))
    (h1 : c1 = fun y : S1x512.Idx => fac x3 x4 n (y 1) * log2e)
    (h2 : c2 = fun y : S1x512.Idx => rmax i x0 x1 x3 x4 (y 1) * log2e + (((pexp i x0 x1 x3 x4 n (y 1)).toInt : ℝ) : EReal)) (j : Fin 128) (L : Fin 512) :
    probV s c1 c2 (ix2 j L) = prob i x0 x1 x3 x4 n j L := by
  rw [probV_apply, hs, h1, h2]
  rfl

theorem lstep (n : Fin 32) (s : FVec Ideal S128x512 .f32) (c1 c2 ps : FVec Ideal S1x512 .f32) (lp : FVec Ideal S8x512 .f32)
    (hs : s = fun y : S128x512.Idx => sc i x0 x1 ⟨128 * n.val + (y 0).val, by have := (y 0).isLt; change _ < 128 at this; omega⟩ (y 1))
    (h1 : c1 = fun y : S1x512.Idx => fac x3 x4 n (y 1) * log2e)
    (h2 : c2 = fun y : S1x512.Idx => rmax i x0 x1 x3 x4 (y 1) * log2e + (((pexp i x0 x1 x3 x4 n (y 1)).toInt : ℝ) : EReal))
    (h3 : ps = fun y : S1x512.Idx => Spec.pow2 (pexp i x0 x1 x3 x4 n (y 1))) (h4 : lp = lsum i x0 x1 x3 x4 n.val) :
    lstepV s c1 c2 ps lp = lsum i x0 x1 x3 x4 (n.val + 1) := by
  funext y
  idx_vars y
  rw [lstepV_apply]
  simp only [probV_eq i x0 x1 x3 x4 n s c1 c2 hs h1 h2]
  rw [h3, h4]
  exact (upto_succ n _).symm

theorem ostep (n : Fin 32) (s : FVec Ideal S128x512 .f32) (c1 c2 f : FVec Ideal S1x512 .f32) (v : Vec Ideal S1x64x128 .fp8e4m3) (op : FVec Ideal S64x512 .f32)
    (hs : s = fun y : S128x512.Idx => sc i x0 x1 ⟨128 * n.val + (y 0).val, by have := (y 0).isLt; change _ < 128 at this; omega⟩ (y 1))
    (h1 : c1 = fun y : S1x512.Idx => fac x3 x4 n (y 1) * log2e)
    (h2 : c2 = fun y : S1x512.Idx => rmax i x0 x1 x3 x4 (y 1) * log2e + (((pexp i x0 x1 x3 x4 n (y 1)).toInt : ℝ) : EReal))
    (h3 : f = fun y : S1x512.Idx => Spec.pow2 (pexp i x0 x1 x3 x4 n (y 1)) * x5 (ix4 0 0 n (⟨(y 1).val % 128, Nat.mod_lt _ (by norm_num)⟩ : Fin 128)))
    (h4 : ∀ d j, v (ix3 0 d j) = x2 (ix3 0 d (⟨128 * n.val + j.val, by omega⟩ : Fin 4096)))
    (h5 : op = osum i x0 x1 x2 x3 x4 x5 n.val) :
    ostepV s c1 c2 v f op = osum i x0 x1 x2 x3 x4 x5 (n.val + 1) := by
  funext y
  idx_vars y
  rw [ostepV_apply]
  simp only [probV_eq i x0 x1 x3 x4 n s c1 c2 hs h1 h2, h4]
  rw [h3, h5]
  exact (upto_succ n _).symm

/-- A block's columns of the values. -/
theorem cols_read (n : Fin 32) (h : ∀ a, (![0, 0, 128 * n.val] : Fin 3 → ℕ) a + S1x64x128.size a ≤ S1x64x4096.size a) (d : Fin 64) (j : Fin 128) :
    (arg5.view.readAt (Elt Ideal) (Rect.unit (s := S1x64x4096) ![0, 0, 128 * n.val] S1x64x128.size h).toLoadRect (harg5.unread x2) : Vec Ideal S1x64x128 .fp8e4m3) (ix3 0 d j)
      = x2 (ix3 0 d (⟨128 * n.val + j.val, by omega⟩ : Fin 4096)) := by
  rw [View.readAt_eq_ld, harg5.read_unread]
  show x2 ((Rect.unit (s := S1x64x4096) ![0, 0, 128 * n.val] S1x64x128.size h).emb (ix3 0 d j)) = _
  refine congrArg x2 ?_
  funext a
  fin_cases a
  · rfl
  · exact Fin.ext (by show 0 + 1 * d.val = d.val; omega)
  · exact Fin.ext (by show 128 * n.val + 1 * j.val = 128 * n.val + j.val; omega)

theorem lsum_zero : Gen.kernelRun3_A.sl.v249 (F := Ideal) = lsum i x0 x1 x3 x4 0 := by
  funext y
  show Ideal.ofBits .f32 0x00000000#32 = upto 0 _
  rw [upto_zero]
  simp

theorem osum_zero : Gen.kernelRun3_A.sl.v248 (F := Ideal) = osum i x0 x1 x2 x3 x4 x5 0 := by
  funext y
  show Ideal.ofBits .f32 0x00000000#32 = upto 0 _
  rw [upto_zero]
  simp

theorem h_sc (n : Fin 32) : ∀ a, (![128 * n.val, 0] : Fin 2 → ℕ) a + S128x512.size a ≤ S4096x512.size a := by
  intro a
  have := n.isLt
  fin_cases a
  · show 128 * n.val + 128 ≤ 4096
    omega
  · exact le_refl 512

theorem h_row (n : Fin 32) : ∀ a, (![n.val, 0] : Fin 2 → ℕ) a + S1x512.size a ≤ S32x512.size a := by
  intro a
  have := n.isLt
  fin_cases a
  · show n.val + 1 ≤ 32
    omega
  · exact le_refl 512

theorem h_col (n : Fin 32) : ∀ a, (![0, 0, 128 * n.val] : Fin 3 → ℕ) a + S1x64x128.size a ≤ S1x64x4096.size a := by
  intro a
  have := n.isLt
  fin_cases a
  · exact le_refl 1
  · exact le_refl 64
  · show 128 * n.val + 128 ≤ 4096
    omega

/-! The 32 blocks. -/

theorem lsum_1 : Gen.kernelRun3_A.sl.v263 (F := Ideal) c i arg3 harg3 arg4 harg4 arg6 harg6 arg7 harg7 arg10 arg11 arg12 arg13 arg14 x0 x1 x3 x4 = lsum i x0 x1 x3 x4 1 := by
  have h := lstep i x0 x1 x3 x4 ⟨0, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_zero i x0 x1 x3 x4)
  exact h

theorem osum_1 : Gen.kernelRun3_A.sl.v275 (F := Ideal) c i arg3 harg3 arg4 harg4 arg5 harg5 arg6 harg6 arg7 harg7 arg8 harg8 arg10 arg11 arg12 arg13 arg15 x0 x1 x2 x3 x4 x5 = osum i x0 x1 x2 x3 x4 x5 1 := by
  have h := ostep i x0 x1 x2 x3 x4 x5 ⟨0, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_zero i x0 x1 x2 x3 x4 x5)
  exact h

theorem lsum_2 : Gen.kernelRun3_A.sl.v289 (F := Ideal) c i arg3 harg3 arg4 harg4 arg6 harg6 arg7 harg7 arg10 arg11 arg12 arg13 arg14 x0 x1 x3 x4 = lsum i x0 x1 x3 x4 2 := by
  have h := lstep i x0 x1 x3 x4 ⟨1, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_1 c i arg3 harg3 arg4 harg4 arg6 harg6 arg7 harg7 arg10 arg11 arg12 arg13 arg14 x0 x1 x3 x4)
  exact h

theorem osum_2 : Gen.kernelRun3_A.sl.v301 (F := Ideal) c i arg3 harg3 arg4 harg4 arg5 harg5 arg6 harg6 arg7 harg7 arg8 harg8 arg10 arg11 arg12 arg13 arg15 x0 x1 x2 x3 x4 x5 = osum i x0 x1 x2 x3 x4 x5 2 := by
  have h := ostep i x0 x1 x2 x3 x4 x5 ⟨1, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_1 c i arg3 harg3 arg4 harg4 arg5 harg5 arg6 harg6 arg7 harg7 arg8 harg8 arg10 arg11 arg12 arg13 arg15 x0 x1 x2 x3 x4 x5)
  exact h

theorem lsum_3 : Gen.kernelRun3_A.sl.v315 (F := Ideal) c i arg3 harg3 arg4 harg4 arg6 harg6 arg7 harg7 arg10 arg11 arg12 arg13 arg14 x0 x1 x3 x4 = lsum i x0 x1 x3 x4 3 := by
  have h := lstep i x0 x1 x3 x4 ⟨2, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_2 c i arg3 harg3 arg4 harg4 arg6 harg6 arg7 harg7 arg10 arg11 arg12 arg13 arg14 x0 x1 x3 x4)
  exact h

theorem osum_3 : Gen.kernelRun3_A.sl.v327 (F := Ideal) c i arg3 harg3 arg4 harg4 arg5 harg5 arg6 harg6 arg7 harg7 arg8 harg8 arg10 arg11 arg12 arg13 arg15 x0 x1 x2 x3 x4 x5 = osum i x0 x1 x2 x3 x4 x5 3 := by
  have h := ostep i x0 x1 x2 x3 x4 x5 ⟨2, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_2 c i arg3 harg3 arg4 harg4 arg5 harg5 arg6 harg6 arg7 harg7 arg8 harg8 arg10 arg11 arg12 arg13 arg15 x0 x1 x2 x3 x4 x5)
  exact h

theorem lsum_4 : Gen.kernelRun3_A.sl.v341 (F := Ideal) c i arg3 harg3 arg4 harg4 arg6 harg6 arg7 harg7 arg10 arg11 arg12 arg13 arg14 x0 x1 x3 x4 = lsum i x0 x1 x3 x4 4 := by
  have h := lstep i x0 x1 x3 x4 ⟨3, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_3 c i arg3 harg3 arg4 harg4 arg6 harg6 arg7 harg7 arg10 arg11 arg12 arg13 arg14 x0 x1 x3 x4)
  exact h

theorem osum_4 : Gen.kernelRun3_A.sl.v353 (F := Ideal) c i arg3 harg3 arg4 harg4 arg5 harg5 arg6 harg6 arg7 harg7 arg8 harg8 arg10 arg11 arg12 arg13 arg15 x0 x1 x2 x3 x4 x5 = osum i x0 x1 x2 x3 x4 x5 4 := by
  have h := ostep i x0 x1 x2 x3 x4 x5 ⟨3, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_3 c i arg3 harg3 arg4 harg4 arg5 harg5 arg6 harg6 arg7 harg7 arg8 harg8 arg10 arg11 arg12 arg13 arg15 x0 x1 x2 x3 x4 x5)
  exact h

theorem lsum_5 : Gen.kernelRun3_A.sl.v367 (F := Ideal) c i arg3 harg3 arg4 harg4 arg6 harg6 arg7 harg7 arg10 arg11 arg12 arg13 arg14 x0 x1 x3 x4 = lsum i x0 x1 x3 x4 5 := by
  have h := lstep i x0 x1 x3 x4 ⟨4, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_4 c i arg3 harg3 arg4 harg4 arg6 harg6 arg7 harg7 arg10 arg11 arg12 arg13 arg14 x0 x1 x3 x4)
  exact h

theorem osum_5 : Gen.kernelRun3_A.sl.v379 (F := Ideal) c i arg3 harg3 arg4 harg4 arg5 harg5 arg6 harg6 arg7 harg7 arg8 harg8 arg10 arg11 arg12 arg13 arg15 x0 x1 x2 x3 x4 x5 = osum i x0 x1 x2 x3 x4 x5 5 := by
  have h := ostep i x0 x1 x2 x3 x4 x5 ⟨4, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_4 c i arg3 harg3 arg4 harg4 arg5 harg5 arg6 harg6 arg7 harg7 arg8 harg8 arg10 arg11 arg12 arg13 arg15 x0 x1 x2 x3 x4 x5)
  exact h

theorem lsum_6 : Gen.kernelRun3_A.sl.v393 (F := Ideal) c i arg3 harg3 arg4 harg4 arg6 harg6 arg7 harg7 arg10 arg11 arg12 arg13 arg14 x0 x1 x3 x4 = lsum i x0 x1 x3 x4 6 := by
  have h := lstep i x0 x1 x3 x4 ⟨5, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_5 c i arg3 harg3 arg4 harg4 arg6 harg6 arg7 harg7 arg10 arg11 arg12 arg13 arg14 x0 x1 x3 x4)
  exact h

theorem osum_6 : Gen.kernelRun3_A.sl.v405 (F := Ideal) c i arg3 harg3 arg4 harg4 arg5 harg5 arg6 harg6 arg7 harg7 arg8 harg8 arg10 arg11 arg12 arg13 arg15 x0 x1 x2 x3 x4 x5 = osum i x0 x1 x2 x3 x4 x5 6 := by
  have h := ostep i x0 x1 x2 x3 x4 x5 ⟨5, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_5 c i arg3 harg3 arg4 harg4 arg5 harg5 arg6 harg6 arg7 harg7 arg8 harg8 arg10 arg11 arg12 arg13 arg15 x0 x1 x2 x3 x4 x5)
  exact h

theorem lsum_7 : Gen.kernelRun3_A.sl.v419 (F := Ideal) c i arg3 harg3 arg4 harg4 arg6 harg6 arg7 harg7 arg10 arg11 arg12 arg13 arg14 x0 x1 x3 x4 = lsum i x0 x1 x3 x4 7 := by
  have h := lstep i x0 x1 x3 x4 ⟨6, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_6 c i arg3 harg3 arg4 harg4 arg6 harg6 arg7 harg7 arg10 arg11 arg12 arg13 arg14 x0 x1 x3 x4)
  exact h

theorem osum_7 : Gen.kernelRun3_A.sl.v431 (F := Ideal) c i arg3 harg3 arg4 harg4 arg5 harg5 arg6 harg6 arg7 harg7 arg8 harg8 arg10 arg11 arg12 arg13 arg15 x0 x1 x2 x3 x4 x5 = osum i x0 x1 x2 x3 x4 x5 7 := by
  have h := ostep i x0 x1 x2 x3 x4 x5 ⟨6, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_6 c i arg3 harg3 arg4 harg4 arg5 harg5 arg6 harg6 arg7 harg7 arg8 harg8 arg10 arg11 arg12 arg13 arg15 x0 x1 x2 x3 x4 x5)
  exact h

theorem lsum_8 : Gen.kernelRun3_A.sl.v445 (F := Ideal) c i arg3 harg3 arg4 harg4 arg6 harg6 arg7 harg7 arg10 arg11 arg12 arg13 arg14 x0 x1 x3 x4 = lsum i x0 x1 x3 x4 8 := by
  have h := lstep i x0 x1 x3 x4 ⟨7, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_7 c i arg3 harg3 arg4 harg4 arg6 harg6 arg7 harg7 arg10 arg11 arg12 arg13 arg14 x0 x1 x3 x4)
  exact h

theorem osum_8 : Gen.kernelRun3_A.sl.v457 (F := Ideal) c i arg3 harg3 arg4 harg4 arg5 harg5 arg6 harg6 arg7 harg7 arg8 harg8 arg10 arg11 arg12 arg13 arg15 x0 x1 x2 x3 x4 x5 = osum i x0 x1 x2 x3 x4 x5 8 := by
  have h := ostep i x0 x1 x2 x3 x4 x5 ⟨7, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_7 c i arg3 harg3 arg4 harg4 arg5 harg5 arg6 harg6 arg7 harg7 arg8 harg8 arg10 arg11 arg12 arg13 arg15 x0 x1 x2 x3 x4 x5)
  exact h

theorem lsum_9 : Gen.kernelRun3_A.sl.v471 (F := Ideal) c i arg3 harg3 arg4 harg4 arg6 harg6 arg7 harg7 arg10 arg11 arg12 arg13 arg14 x0 x1 x3 x4 = lsum i x0 x1 x3 x4 9 := by
  have h := lstep i x0 x1 x3 x4 ⟨8, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_8 c i arg3 harg3 arg4 harg4 arg6 harg6 arg7 harg7 arg10 arg11 arg12 arg13 arg14 x0 x1 x3 x4)
  exact h

theorem osum_9 : Gen.kernelRun3_A.sl.v483 (F := Ideal) c i arg3 harg3 arg4 harg4 arg5 harg5 arg6 harg6 arg7 harg7 arg8 harg8 arg10 arg11 arg12 arg13 arg15 x0 x1 x2 x3 x4 x5 = osum i x0 x1 x2 x3 x4 x5 9 := by
  have h := ostep i x0 x1 x2 x3 x4 x5 ⟨8, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_8 c i arg3 harg3 arg4 harg4 arg5 harg5 arg6 harg6 arg7 harg7 arg8 harg8 arg10 arg11 arg12 arg13 arg15 x0 x1 x2 x3 x4 x5)
  exact h

theorem lsum_10 : Gen.kernelRun3_A.sl.v497 (F := Ideal) c i arg3 harg3 arg4 harg4 arg6 harg6 arg7 harg7 arg10 arg11 arg12 arg13 arg14 x0 x1 x3 x4 = lsum i x0 x1 x3 x4 10 := by
  have h := lstep i x0 x1 x3 x4 ⟨9, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_9 c i arg3 harg3 arg4 harg4 arg6 harg6 arg7 harg7 arg10 arg11 arg12 arg13 arg14 x0 x1 x3 x4)
  exact h

theorem osum_10 : Gen.kernelRun3_A.sl.v509 (F := Ideal) c i arg3 harg3 arg4 harg4 arg5 harg5 arg6 harg6 arg7 harg7 arg8 harg8 arg10 arg11 arg12 arg13 arg15 x0 x1 x2 x3 x4 x5 = osum i x0 x1 x2 x3 x4 x5 10 := by
  have h := ostep i x0 x1 x2 x3 x4 x5 ⟨9, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_9 c i arg3 harg3 arg4 harg4 arg5 harg5 arg6 harg6 arg7 harg7 arg8 harg8 arg10 arg11 arg12 arg13 arg15 x0 x1 x2 x3 x4 x5)
  exact h

theorem lsum_11 : Gen.kernelRun3_A.sl.v523 (F := Ideal) c i arg3 harg3 arg4 harg4 arg6 harg6 arg7 harg7 arg10 arg11 arg12 arg13 arg14 x0 x1 x3 x4 = lsum i x0 x1 x3 x4 11 := by
  have h := lstep i x0 x1 x3 x4 ⟨10, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_10 c i arg3 harg3 arg4 harg4 arg6 harg6 arg7 harg7 arg10 arg11 arg12 arg13 arg14 x0 x1 x3 x4)
  exact h

theorem osum_11 : Gen.kernelRun3_A.sl.v535 (F := Ideal) c i arg3 harg3 arg4 harg4 arg5 harg5 arg6 harg6 arg7 harg7 arg8 harg8 arg10 arg11 arg12 arg13 arg15 x0 x1 x2 x3 x4 x5 = osum i x0 x1 x2 x3 x4 x5 11 := by
  have h := ostep i x0 x1 x2 x3 x4 x5 ⟨10, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_10 c i arg3 harg3 arg4 harg4 arg5 harg5 arg6 harg6 arg7 harg7 arg8 harg8 arg10 arg11 arg12 arg13 arg15 x0 x1 x2 x3 x4 x5)
  exact h

theorem lsum_12 : Gen.kernelRun3_A.sl.v549 (F := Ideal) c i arg3 harg3 arg4 harg4 arg6 harg6 arg7 harg7 arg10 arg11 arg12 arg13 arg14 x0 x1 x3 x4 = lsum i x0 x1 x3 x4 12 := by
  have h := lstep i x0 x1 x3 x4 ⟨11, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_11 c i arg3 harg3 arg4 harg4 arg6 harg6 arg7 harg7 arg10 arg11 arg12 arg13 arg14 x0 x1 x3 x4)
  exact h

theorem osum_12 : Gen.kernelRun3_A.sl.v561 (F := Ideal) c i arg3 harg3 arg4 harg4 arg5 harg5 arg6 harg6 arg7 harg7 arg8 harg8 arg10 arg11 arg12 arg13 arg15 x0 x1 x2 x3 x4 x5 = osum i x0 x1 x2 x3 x4 x5 12 := by
  have h := ostep i x0 x1 x2 x3 x4 x5 ⟨11, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_11 c i arg3 harg3 arg4 harg4 arg5 harg5 arg6 harg6 arg7 harg7 arg8 harg8 arg10 arg11 arg12 arg13 arg15 x0 x1 x2 x3 x4 x5)
  exact h

theorem lsum_13 : Gen.kernelRun3_A.sl.v575 (F := Ideal) c i arg3 harg3 arg4 harg4 arg6 harg6 arg7 harg7 arg10 arg11 arg12 arg13 arg14 x0 x1 x3 x4 = lsum i x0 x1 x3 x4 13 := by
  have h := lstep i x0 x1 x3 x4 ⟨12, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_12 c i arg3 harg3 arg4 harg4 arg6 harg6 arg7 harg7 arg10 arg11 arg12 arg13 arg14 x0 x1 x3 x4)
  exact h

theorem osum_13 : Gen.kernelRun3_A.sl.v587 (F := Ideal) c i arg3 harg3 arg4 harg4 arg5 harg5 arg6 harg6 arg7 harg7 arg8 harg8 arg10 arg11 arg12 arg13 arg15 x0 x1 x2 x3 x4 x5 = osum i x0 x1 x2 x3 x4 x5 13 := by
  have h := ostep i x0 x1 x2 x3 x4 x5 ⟨12, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_12 c i arg3 harg3 arg4 harg4 arg5 harg5 arg6 harg6 arg7 harg7 arg8 harg8 arg10 arg11 arg12 arg13 arg15 x0 x1 x2 x3 x4 x5)
  exact h

theorem lsum_14 : Gen.kernelRun3_A.sl.v601 (F := Ideal) c i arg3 harg3 arg4 harg4 arg6 harg6 arg7 harg7 arg10 arg11 arg12 arg13 arg14 x0 x1 x3 x4 = lsum i x0 x1 x3 x4 14 := by
  have h := lstep i x0 x1 x3 x4 ⟨13, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_13 c i arg3 harg3 arg4 harg4 arg6 harg6 arg7 harg7 arg10 arg11 arg12 arg13 arg14 x0 x1 x3 x4)
  exact h

theorem osum_14 : Gen.kernelRun3_A.sl.v613 (F := Ideal) c i arg3 harg3 arg4 harg4 arg5 harg5 arg6 harg6 arg7 harg7 arg8 harg8 arg10 arg11 arg12 arg13 arg15 x0 x1 x2 x3 x4 x5 = osum i x0 x1 x2 x3 x4 x5 14 := by
  have h := ostep i x0 x1 x2 x3 x4 x5 ⟨13, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_13 c i arg3 harg3 arg4 harg4 arg5 harg5 arg6 harg6 arg7 harg7 arg8 harg8 arg10 arg11 arg12 arg13 arg15 x0 x1 x2 x3 x4 x5)
  exact h

theorem lsum_15 : Gen.kernelRun3_A.sl.v627 (F := Ideal) c i arg3 harg3 arg4 harg4 arg6 harg6 arg7 harg7 arg10 arg11 arg12 arg13 arg14 x0 x1 x3 x4 = lsum i x0 x1 x3 x4 15 := by
  have h := lstep i x0 x1 x3 x4 ⟨14, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_14 c i arg3 harg3 arg4 harg4 arg6 harg6 arg7 harg7 arg10 arg11 arg12 arg13 arg14 x0 x1 x3 x4)
  exact h

theorem osum_15 : Gen.kernelRun3_A.sl.v639 (F := Ideal) c i arg3 harg3 arg4 harg4 arg5 harg5 arg6 harg6 arg7 harg7 arg8 harg8 arg10 arg11 arg12 arg13 arg15 x0 x1 x2 x3 x4 x5 = osum i x0 x1 x2 x3 x4 x5 15 := by
  have h := ostep i x0 x1 x2 x3 x4 x5 ⟨14, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_14 c i arg3 harg3 arg4 harg4 arg5 harg5 arg6 harg6 arg7 harg7 arg8 harg8 arg10 arg11 arg12 arg13 arg15 x0 x1 x2 x3 x4 x5)
  exact h

theorem lsum_16 : Gen.kernelRun3_A.sl.v653 (F := Ideal) c i arg3 harg3 arg4 harg4 arg6 harg6 arg7 harg7 arg10 arg11 arg12 arg13 arg14 x0 x1 x3 x4 = lsum i x0 x1 x3 x4 16 := by
  have h := lstep i x0 x1 x3 x4 ⟨15, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_15 c i arg3 harg3 arg4 harg4 arg6 harg6 arg7 harg7 arg10 arg11 arg12 arg13 arg14 x0 x1 x3 x4)
  exact h

theorem osum_16 : Gen.kernelRun3_A.sl.v665 (F := Ideal) c i arg3 harg3 arg4 harg4 arg5 harg5 arg6 harg6 arg7 harg7 arg8 harg8 arg10 arg11 arg12 arg13 arg15 x0 x1 x2 x3 x4 x5 = osum i x0 x1 x2 x3 x4 x5 16 := by
  have h := ostep i x0 x1 x2 x3 x4 x5 ⟨15, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_15 c i arg3 harg3 arg4 harg4 arg5 harg5 arg6 harg6 arg7 harg7 arg8 harg8 arg10 arg11 arg12 arg13 arg15 x0 x1 x2 x3 x4 x5)
  exact h

theorem lsum_17 : Gen.kernelRun3_A.sl.v679 (F := Ideal) c i arg3 harg3 arg4 harg4 arg6 harg6 arg7 harg7 arg10 arg11 arg12 arg13 arg14 x0 x1 x3 x4 = lsum i x0 x1 x3 x4 17 := by
  have h := lstep i x0 x1 x3 x4 ⟨16, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_16 c i arg3 harg3 arg4 harg4 arg6 harg6 arg7 harg7 arg10 arg11 arg12 arg13 arg14 x0 x1 x3 x4)
  exact h

theorem osum_17 : Gen.kernelRun3_A.sl.v691 (F := Ideal) c i arg3 harg3 arg4 harg4 arg5 harg5 arg6 harg6 arg7 harg7 arg8 harg8 arg10 arg11 arg12 arg13 arg15 x0 x1 x2 x3 x4 x5 = osum i x0 x1 x2 x3 x4 x5 17 := by
  have h := ostep i x0 x1 x2 x3 x4 x5 ⟨16, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_16 c i arg3 harg3 arg4 harg4 arg5 harg5 arg6 harg6 arg7 harg7 arg8 harg8 arg10 arg11 arg12 arg13 arg15 x0 x1 x2 x3 x4 x5)
  exact h

theorem lsum_18 : Gen.kernelRun3_A.sl.v705 (F := Ideal) c i arg3 harg3 arg4 harg4 arg6 harg6 arg7 harg7 arg10 arg11 arg12 arg13 arg14 x0 x1 x3 x4 = lsum i x0 x1 x3 x4 18 := by
  have h := lstep i x0 x1 x3 x4 ⟨17, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_17 c i arg3 harg3 arg4 harg4 arg6 harg6 arg7 harg7 arg10 arg11 arg12 arg13 arg14 x0 x1 x3 x4)
  exact h

theorem osum_18 : Gen.kernelRun3_A.sl.v717 (F := Ideal) c i arg3 harg3 arg4 harg4 arg5 harg5 arg6 harg6 arg7 harg7 arg8 harg8 arg10 arg11 arg12 arg13 arg15 x0 x1 x2 x3 x4 x5 = osum i x0 x1 x2 x3 x4 x5 18 := by
  have h := ostep i x0 x1 x2 x3 x4 x5 ⟨17, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_17 c i arg3 harg3 arg4 harg4 arg5 harg5 arg6 harg6 arg7 harg7 arg8 harg8 arg10 arg11 arg12 arg13 arg15 x0 x1 x2 x3 x4 x5)
  exact h

theorem lsum_19 : Gen.kernelRun3_A.sl.v731 (F := Ideal) c i arg3 harg3 arg4 harg4 arg6 harg6 arg7 harg7 arg10 arg11 arg12 arg13 arg14 x0 x1 x3 x4 = lsum i x0 x1 x3 x4 19 := by
  have h := lstep i x0 x1 x3 x4 ⟨18, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_18 c i arg3 harg3 arg4 harg4 arg6 harg6 arg7 harg7 arg10 arg11 arg12 arg13 arg14 x0 x1 x3 x4)
  exact h

theorem osum_19 : Gen.kernelRun3_A.sl.v743 (F := Ideal) c i arg3 harg3 arg4 harg4 arg5 harg5 arg6 harg6 arg7 harg7 arg8 harg8 arg10 arg11 arg12 arg13 arg15 x0 x1 x2 x3 x4 x5 = osum i x0 x1 x2 x3 x4 x5 19 := by
  have h := ostep i x0 x1 x2 x3 x4 x5 ⟨18, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_18 c i arg3 harg3 arg4 harg4 arg5 harg5 arg6 harg6 arg7 harg7 arg8 harg8 arg10 arg11 arg12 arg13 arg15 x0 x1 x2 x3 x4 x5)
  exact h

theorem lsum_20 : Gen.kernelRun3_A.sl.v757 (F := Ideal) c i arg3 harg3 arg4 harg4 arg6 harg6 arg7 harg7 arg10 arg11 arg12 arg13 arg14 x0 x1 x3 x4 = lsum i x0 x1 x3 x4 20 := by
  have h := lstep i x0 x1 x3 x4 ⟨19, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_19 c i arg3 harg3 arg4 harg4 arg6 harg6 arg7 harg7 arg10 arg11 arg12 arg13 arg14 x0 x1 x3 x4)
  exact h

theorem osum_20 : Gen.kernelRun3_A.sl.v769 (F := Ideal) c i arg3 harg3 arg4 harg4 arg5 harg5 arg6 harg6 arg7 harg7 arg8 harg8 arg10 arg11 arg12 arg13 arg15 x0 x1 x2 x3 x4 x5 = osum i x0 x1 x2 x3 x4 x5 20 := by
  have h := ostep i x0 x1 x2 x3 x4 x5 ⟨19, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_19 c i arg3 harg3 arg4 harg4 arg5 harg5 arg6 harg6 arg7 harg7 arg8 harg8 arg10 arg11 arg12 arg13 arg15 x0 x1 x2 x3 x4 x5)
  exact h

theorem lsum_21 : Gen.kernelRun3_A.sl.v783 (F := Ideal) c i arg3 harg3 arg4 harg4 arg6 harg6 arg7 harg7 arg10 arg11 arg12 arg13 arg14 x0 x1 x3 x4 = lsum i x0 x1 x3 x4 21 := by
  have h := lstep i x0 x1 x3 x4 ⟨20, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_20 c i arg3 harg3 arg4 harg4 arg6 harg6 arg7 harg7 arg10 arg11 arg12 arg13 arg14 x0 x1 x3 x4)
  exact h

theorem osum_21 : Gen.kernelRun3_A.sl.v795 (F := Ideal) c i arg3 harg3 arg4 harg4 arg5 harg5 arg6 harg6 arg7 harg7 arg8 harg8 arg10 arg11 arg12 arg13 arg15 x0 x1 x2 x3 x4 x5 = osum i x0 x1 x2 x3 x4 x5 21 := by
  have h := ostep i x0 x1 x2 x3 x4 x5 ⟨20, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_20 c i arg3 harg3 arg4 harg4 arg5 harg5 arg6 harg6 arg7 harg7 arg8 harg8 arg10 arg11 arg12 arg13 arg15 x0 x1 x2 x3 x4 x5)
  exact h

theorem lsum_22 : Gen.kernelRun3_A.sl.v809 (F := Ideal) c i arg3 harg3 arg4 harg4 arg6 harg6 arg7 harg7 arg10 arg11 arg12 arg13 arg14 x0 x1 x3 x4 = lsum i x0 x1 x3 x4 22 := by
  have h := lstep i x0 x1 x3 x4 ⟨21, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_21 c i arg3 harg3 arg4 harg4 arg6 harg6 arg7 harg7 arg10 arg11 arg12 arg13 arg14 x0 x1 x3 x4)
  exact h

theorem osum_22 : Gen.kernelRun3_A.sl.v821 (F := Ideal) c i arg3 harg3 arg4 harg4 arg5 harg5 arg6 harg6 arg7 harg7 arg8 harg8 arg10 arg11 arg12 arg13 arg15 x0 x1 x2 x3 x4 x5 = osum i x0 x1 x2 x3 x4 x5 22 := by
  have h := ostep i x0 x1 x2 x3 x4 x5 ⟨21, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_21 c i arg3 harg3 arg4 harg4 arg5 harg5 arg6 harg6 arg7 harg7 arg8 harg8 arg10 arg11 arg12 arg13 arg15 x0 x1 x2 x3 x4 x5)
  exact h

theorem lsum_23 : Gen.kernelRun3_A.sl.v835 (F := Ideal) c i arg3 harg3 arg4 harg4 arg6 harg6 arg7 harg7 arg10 arg11 arg12 arg13 arg14 x0 x1 x3 x4 = lsum i x0 x1 x3 x4 23 := by
  have h := lstep i x0 x1 x3 x4 ⟨22, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_22 c i arg3 harg3 arg4 harg4 arg6 harg6 arg7 harg7 arg10 arg11 arg12 arg13 arg14 x0 x1 x3 x4)
  exact h

theorem osum_23 : Gen.kernelRun3_A.sl.v847 (F := Ideal) c i arg3 harg3 arg4 harg4 arg5 harg5 arg6 harg6 arg7 harg7 arg8 harg8 arg10 arg11 arg12 arg13 arg15 x0 x1 x2 x3 x4 x5 = osum i x0 x1 x2 x3 x4 x5 23 := by
  have h := ostep i x0 x1 x2 x3 x4 x5 ⟨22, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_22 c i arg3 harg3 arg4 harg4 arg5 harg5 arg6 harg6 arg7 harg7 arg8 harg8 arg10 arg11 arg12 arg13 arg15 x0 x1 x2 x3 x4 x5)
  exact h

theorem lsum_24 : Gen.kernelRun3_A.sl.v861 (F := Ideal) c i arg3 harg3 arg4 harg4 arg6 harg6 arg7 harg7 arg10 arg11 arg12 arg13 arg14 x0 x1 x3 x4 = lsum i x0 x1 x3 x4 24 := by
  have h := lstep i x0 x1 x3 x4 ⟨23, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_23 c i arg3 harg3 arg4 harg4 arg6 harg6 arg7 harg7 arg10 arg11 arg12 arg13 arg14 x0 x1 x3 x4)
  exact h

theorem osum_24 : Gen.kernelRun3_A.sl.v873 (F := Ideal) c i arg3 harg3 arg4 harg4 arg5 harg5 arg6 harg6 arg7 harg7 arg8 harg8 arg10 arg11 arg12 arg13 arg15 x0 x1 x2 x3 x4 x5 = osum i x0 x1 x2 x3 x4 x5 24 := by
  have h := ostep i x0 x1 x2 x3 x4 x5 ⟨23, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_23 c i arg3 harg3 arg4 harg4 arg5 harg5 arg6 harg6 arg7 harg7 arg8 harg8 arg10 arg11 arg12 arg13 arg15 x0 x1 x2 x3 x4 x5)
  exact h

theorem lsum_25 : Gen.kernelRun3_A.sl.v887 (F := Ideal) c i arg3 harg3 arg4 harg4 arg6 harg6 arg7 harg7 arg10 arg11 arg12 arg13 arg14 x0 x1 x3 x4 = lsum i x0 x1 x3 x4 25 := by
  have h := lstep i x0 x1 x3 x4 ⟨24, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_24 c i arg3 harg3 arg4 harg4 arg6 harg6 arg7 harg7 arg10 arg11 arg12 arg13 arg14 x0 x1 x3 x4)
  exact h

theorem osum_25 : Gen.kernelRun3_A.sl.v899 (F := Ideal) c i arg3 harg3 arg4 harg4 arg5 harg5 arg6 harg6 arg7 harg7 arg8 harg8 arg10 arg11 arg12 arg13 arg15 x0 x1 x2 x3 x4 x5 = osum i x0 x1 x2 x3 x4 x5 25 := by
  have h := ostep i x0 x1 x2 x3 x4 x5 ⟨24, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_24 c i arg3 harg3 arg4 harg4 arg5 harg5 arg6 harg6 arg7 harg7 arg8 harg8 arg10 arg11 arg12 arg13 arg15 x0 x1 x2 x3 x4 x5)
  exact h

theorem lsum_26 : Gen.kernelRun3_A.sl.v913 (F := Ideal) c i arg3 harg3 arg4 harg4 arg6 harg6 arg7 harg7 arg10 arg11 arg12 arg13 arg14 x0 x1 x3 x4 = lsum i x0 x1 x3 x4 26 := by
  have h := lstep i x0 x1 x3 x4 ⟨25, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_25 c i arg3 harg3 arg4 harg4 arg6 harg6 arg7 harg7 arg10 arg11 arg12 arg13 arg14 x0 x1 x3 x4)
  exact h

theorem osum_26 : Gen.kernelRun3_A.sl.v925 (F := Ideal) c i arg3 harg3 arg4 harg4 arg5 harg5 arg6 harg6 arg7 harg7 arg8 harg8 arg10 arg11 arg12 arg13 arg15 x0 x1 x2 x3 x4 x5 = osum i x0 x1 x2 x3 x4 x5 26 := by
  have h := ostep i x0 x1 x2 x3 x4 x5 ⟨25, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_25 c i arg3 harg3 arg4 harg4 arg5 harg5 arg6 harg6 arg7 harg7 arg8 harg8 arg10 arg11 arg12 arg13 arg15 x0 x1 x2 x3 x4 x5)
  exact h

theorem lsum_27 : Gen.kernelRun3_A.sl.v939 (F := Ideal) c i arg3 harg3 arg4 harg4 arg6 harg6 arg7 harg7 arg10 arg11 arg12 arg13 arg14 x0 x1 x3 x4 = lsum i x0 x1 x3 x4 27 := by
  have h := lstep i x0 x1 x3 x4 ⟨26, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_26 c i arg3 harg3 arg4 harg4 arg6 harg6 arg7 harg7 arg10 arg11 arg12 arg13 arg14 x0 x1 x3 x4)
  exact h

theorem osum_27 : Gen.kernelRun3_A.sl.v951 (F := Ideal) c i arg3 harg3 arg4 harg4 arg5 harg5 arg6 harg6 arg7 harg7 arg8 harg8 arg10 arg11 arg12 arg13 arg15 x0 x1 x2 x3 x4 x5 = osum i x0 x1 x2 x3 x4 x5 27 := by
  have h := ostep i x0 x1 x2 x3 x4 x5 ⟨26, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_26 c i arg3 harg3 arg4 harg4 arg5 harg5 arg6 harg6 arg7 harg7 arg8 harg8 arg10 arg11 arg12 arg13 arg15 x0 x1 x2 x3 x4 x5)
  exact h

theorem lsum_28 : Gen.kernelRun3_A.sl.v965 (F := Ideal) c i arg3 harg3 arg4 harg4 arg6 harg6 arg7 harg7 arg10 arg11 arg12 arg13 arg14 x0 x1 x3 x4 = lsum i x0 x1 x3 x4 28 := by
  have h := lstep i x0 x1 x3 x4 ⟨27, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_27 c i arg3 harg3 arg4 harg4 arg6 harg6 arg7 harg7 arg10 arg11 arg12 arg13 arg14 x0 x1 x3 x4)
  exact h

theorem osum_28 : Gen.kernelRun3_A.sl.v977 (F := Ideal) c i arg3 harg3 arg4 harg4 arg5 harg5 arg6 harg6 arg7 harg7 arg8 harg8 arg10 arg11 arg12 arg13 arg15 x0 x1 x2 x3 x4 x5 = osum i x0 x1 x2 x3 x4 x5 28 := by
  have h := ostep i x0 x1 x2 x3 x4 x5 ⟨27, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_27 c i arg3 harg3 arg4 harg4 arg5 harg5 arg6 harg6 arg7 harg7 arg8 harg8 arg10 arg11 arg12 arg13 arg15 x0 x1 x2 x3 x4 x5)
  exact h

theorem lsum_29 : Gen.kernelRun3_A.sl.v991 (F := Ideal) c i arg3 harg3 arg4 harg4 arg6 harg6 arg7 harg7 arg10 arg11 arg12 arg13 arg14 x0 x1 x3 x4 = lsum i x0 x1 x3 x4 29 := by
  have h := lstep i x0 x1 x3 x4 ⟨28, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_28 c i arg3 harg3 arg4 harg4 arg6 harg6 arg7 harg7 arg10 arg11 arg12 arg13 arg14 x0 x1 x3 x4)
  exact h

theorem osum_29 : Gen.kernelRun3_A.sl.v1003 (F := Ideal) c i arg3 harg3 arg4 harg4 arg5 harg5 arg6 harg6 arg7 harg7 arg8 harg8 arg10 arg11 arg12 arg13 arg15 x0 x1 x2 x3 x4 x5 = osum i x0 x1 x2 x3 x4 x5 29 := by
  have h := ostep i x0 x1 x2 x3 x4 x5 ⟨28, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_28 c i arg3 harg3 arg4 harg4 arg5 harg5 arg6 harg6 arg7 harg7 arg8 harg8 arg10 arg11 arg12 arg13 arg15 x0 x1 x2 x3 x4 x5)
  exact h

theorem lsum_30 : Gen.kernelRun3_A.sl.v1017 (F := Ideal) c i arg3 harg3 arg4 harg4 arg6 harg6 arg7 harg7 arg10 arg11 arg12 arg13 arg14 x0 x1 x3 x4 = lsum i x0 x1 x3 x4 30 := by
  have h := lstep i x0 x1 x3 x4 ⟨29, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_29 c i arg3 harg3 arg4 harg4 arg6 harg6 arg7 harg7 arg10 arg11 arg12 arg13 arg14 x0 x1 x3 x4)
  exact h

theorem osum_30 : Gen.kernelRun3_A.sl.v1029 (F := Ideal) c i arg3 harg3 arg4 harg4 arg5 harg5 arg6 harg6 arg7 harg7 arg8 harg8 arg10 arg11 arg12 arg13 arg15 x0 x1 x2 x3 x4 x5 = osum i x0 x1 x2 x3 x4 x5 30 := by
  have h := ostep i x0 x1 x2 x3 x4 x5 ⟨29, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_29 c i arg3 harg3 arg4 harg4 arg5 harg5 arg6 harg6 arg7 harg7 arg8 harg8 arg10 arg11 arg12 arg13 arg15 x0 x1 x2 x3 x4 x5)
  exact h

theorem lsum_31 : Gen.kernelRun3_A.sl.v1043 (F := Ideal) c i arg3 harg3 arg4 harg4 arg6 harg6 arg7 harg7 arg10 arg11 arg12 arg13 arg14 x0 x1 x3 x4 = lsum i x0 x1 x3 x4 31 := by
  have h := lstep i x0 x1 x3 x4 ⟨30, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_30 c i arg3 harg3 arg4 harg4 arg6 harg6 arg7 harg7 arg10 arg11 arg12 arg13 arg14 x0 x1 x3 x4)
  exact h

theorem osum_31 : Gen.kernelRun3_A.sl.v1055 (F := Ideal) c i arg3 harg3 arg4 harg4 arg5 harg5 arg6 harg6 arg7 harg7 arg8 harg8 arg10 arg11 arg12 arg13 arg15 x0 x1 x2 x3 x4 x5 = osum i x0 x1 x2 x3 x4 x5 31 := by
  have h := ostep i x0 x1 x2 x3 x4 x5 ⟨30, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_30 c i arg3 harg3 arg4 harg4 arg5 harg5 arg6 harg6 arg7 harg7 arg8 harg8 arg10 arg11 arg12 arg13 arg15 x0 x1 x2 x3 x4 x5)
  exact h

theorem lsum_32 : Gen.kernelRun3_A.sl.v1069 (F := Ideal) c i arg3 harg3 arg4 harg4 arg6 harg6 arg7 harg7 arg10 arg11 arg12 arg13 arg14 x0 x1 x3 x4 = lsum i x0 x1 x3 x4 32 := by
  have h := lstep i x0 x1 x3 x4 ⟨31, by decide⟩ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (scale_row c i arg3 harg3 arg4 harg4 arg6 harg6 arg7 harg7 arg11 arg14 x0 x1 x3 x4 _ (h_row _))
    (lsum_31 c i arg3 harg3 arg4 harg4 arg6 harg6 arg7 harg7 arg10 arg11 arg12 arg13 arg14 x0 x1 x3 x4)
  exact h

theorem osum_32 : addf (Gen.kernelRun3_A.sl.v1055 (F := Ideal) c i arg3 harg3 arg4 harg4 arg5 harg5 arg6 harg6 arg7 harg7 arg8 harg8 arg10 arg11 arg12 arg13 arg15 x0 x1 x2 x3 x4 x5) (Gen.kernelRun3_A.sl.v1080 (F := Ideal) c i arg3 harg3 arg4 harg4 arg5 harg5 arg6 harg6 arg7 harg7 arg8 harg8 arg10 arg11 arg12 arg13 arg15 x0 x1 x2 x3 x4 x5) = osum i x0 x1 x2 x3 x4 x5 32 := by
  have h := ostep i x0 x1 x2 x3 x4 x5 ⟨31, by decide⟩ _ _ _ _ _ _ (scores_read c i arg3 harg3 arg4 harg4 arg10 x0 x1 _ (h_sc _)) (mul_row c arg6 harg6 arg7 harg7 arg12 x3 x4 _ (h_row _))
    (sub_row c i arg3 harg3 arg4 harg4 arg6 harg6 arg7 harg7 arg11 arg13 x0 x1 x3 x4 _ (h_row _)) (out_row c i arg3 harg3 arg4 harg4 arg6 harg6 arg7 harg7 arg8 harg8 arg11 arg15 x0 x1 x3 x4 x5 _ (h_row _))
    (cols_read arg5 harg5 x2 _ (h_col _)) (osum_31 c i arg3 harg3 arg4 harg4 arg5 harg5 arg6 harg6 arg7 harg7 arg8 harg8 arg10 arg11 arg12 arg13 arg15 x0 x1 x2 x3 x4 x5)
  exact h

end Cert.KernelIdeal.Val

end
-- ==== Proof.AttnBlock.lean ====
/- What one grid point of the attention leaves in its block of the output. -/
module

public import proofs.«01_k».proof.Proof.AttnFold
public import proofs.«01_k».proof.Proof.Gen.KernelIdeal.Frame
public import Idealize.ShloMosaic.Lib.WritesUnit

@[expose] public section

set_option maxRecDepth 16384

noncomputable section

namespace Cert.KernelIdeal.Val

open Idealize.ShloMosaic Idealize.ShloMosaic.TcCoe Idealize.ShloMosaic.Pipeline Idealize.SL Cert.KernelIdeal

theorem lower_apply (v w : FVec Ideal S64x512 .f32) (u : FVec Ideal S8x512 .f32) (q l : Fin 128) :
    (Gen.k3_pay149 v u w : FVec Ideal S1x128x128 .bf16) (ix3 0 q l)
      = (Gen.k3_pay148 v u w : FVec Ideal S64x512 .f32) (ix2 (⟨l.val % 64, Nat.mod_lt _ (by norm_num)⟩ : Fin 64) (⟨l.val / 64 * 128 + q.val, by omega⟩ : Fin 512)) := by
  unfold Gen.k3_pay149
  generalize (Gen.k3_pay148 v u w : FVec Ideal S64x512 .f32) = z
  pointwise []
  split_ifs
  all_goals exact congrArg z (congr (congrArg ix2 (Fin.ext (by simp only []; omega))) (Fin.ext (by simp only []; omega)))

theorem upper_apply (v w : FVec Ideal S64x512 .f32) (u : FVec Ideal S8x512 .f32) (q l : Fin 128) :
    (Gen.k3_pay150 v u w : FVec Ideal S1x128x128 .bf16) (ix3 0 q l)
      = (Gen.k3_pay148 v u w : FVec Ideal S64x512 .f32) (ix2 (⟨l.val % 64, Nat.mod_lt _ (by norm_num)⟩ : Fin 64) (⟨(l.val / 64 + 2) * 128 + q.val, by omega⟩ : Fin 512)) := by
  unfold Gen.k3_pay150
  generalize (Gen.k3_pay148 v u w : FVec Ideal S64x512 .f32) = z
  pointwise []
  split_ifs
  all_goals exact congrArg z (congr (congrArg ix2 (Fin.ext (by simp only []; omega))) (Fin.ext (by simp only []; omega)))

theorem quot_apply (v w : FVec Ideal S64x512 .f32) (u : FVec Ideal S8x512 .f32) (d : Fin 64) (L : Fin 512) :
    (Gen.k3_pay148 v u w : FVec Ideal S64x512 .f32) (ix2 d L)
      = Ideal.div ((addf v w : FVec Ideal S64x512 .f32) (ix2 d L)) (∑ r : Fin 8, (u (ix2 r L) : EReal)) := by
  unfold Gen.k3_pay148
  generalize (addf v w : FVec Ideal S64x512 .f32) = z
  pointwise! []

theorem two_pieces (P1 P0 : S1x128x128.Idx → Elt Ideal .bf16) (q : Fin 128) (l : Fin 256) :
    Gen.VO3_6.read (Elt Ideal) (Gen.VO3_6.writes (Elt Ideal) Gen.VO3_6.junk
      [⟨Rect.unit (s := S1x128x256) ![0, 0, 128] S1x128x128.size Gen.inb_S1x128x256_S1x128x128_0_0_128, P1⟩,
       ⟨Rect.unit (s := S1x128x256) ![0, 0, 0] S1x128x128.size Gen.inb_S1x128x256_S1x128x128_0_0_0, P0⟩]) (ix3 0 q l)
      = if h : l.val < 128 then P0 (ix3 0 q (⟨l.val, h⟩ : Fin 128)) else P1 (ix3 0 q (⟨l.val - 128, by omega⟩ : Fin 128)) := by
  by_cases hl : l.val < 128
  · rw [dif_pos hl]
    refine (View.read_writes_cons_unit_of_not_mem (Val := Elt Ideal) (off' := ![0, 0, 128]) Gen.VO3_6 _ Gen.inb_S1x128x256_S1x128x128_0_0_128 P1 _ (ix3 0 q l) rfl (2 : Fin 3) (Or.inl hl)).trans ?_
    refine (View.read_writes_cons_unit_of_mem (Val := Elt Ideal) (off' := ![0, 0, 0]) Gen.VO3_6 _ Gen.inb_S1x128x256_S1x128x128_0_0_0 P0 _ (ix3 0 q l) (ix3 0 q (⟨l.val, hl⟩ : Fin 128)) rfl ?_)
    intro a
    fin_cases a
    · rfl
    · exact (Nat.zero_add _).symm
    · exact (Nat.zero_add _).symm
  · rw [dif_neg hl]
    refine (View.read_writes_cons_unit_of_mem (Val := Elt Ideal) (off' := ![0, 0, 128]) Gen.VO3_6 _ Gen.inb_S1x128x256_S1x128x128_0_0_128 P1 _ (ix3 0 q l) (ix3 0 q (⟨l.val - 128, by omega⟩ : Fin 128)) rfl ?_)
    intro a
    fin_cases a
    · rfl
    · exact (Nat.zero_add _).symm
    · show l.val = 128 + (l.val - 128)
      omega

theorem out_read (v w : FVec Ideal S64x512 .f32) (u : FVec Ideal S8x512 .f32) (q : Fin 128) (l : Fin 256) :
    Gen.VO3_6.read (Elt Ideal) (Gen.VO3_6.writes (Elt Ideal) Gen.VO3_6.junk
      [⟨Rect.unit (s := S1x128x256) ![0, 0, 128] S1x128x128.size Gen.inb_S1x128x256_S1x128x128_0_0_128, Gen.k3_pay150 v u w⟩,
       ⟨Rect.unit (s := S1x128x256) ![0, 0, 0] S1x128x128.size Gen.inb_S1x128x256_S1x128x128_0_0_0, Gen.k3_pay149 v u w⟩]) (ix3 0 q l)
      = (Gen.k3_pay148 v u w : FVec Ideal S64x512 .f32) (ix2 (⟨l.val % 64, Nat.mod_lt _ (by norm_num)⟩ : Fin 64) (⟨l.val / 64 * 128 + q.val, by omega⟩ : Fin 512)) := by
  refine (two_pieces _ _ q l).trans ?_
  by_cases hl : l.val < 128
  · rw [dif_pos hl]
    exact lower_apply v w u q ⟨l.val, hl⟩
  · rw [dif_neg hl]
    refine (upper_apply v w u q ⟨l.val - 128, by omega⟩).trans ?_
    generalize (Gen.k3_pay148 v u w : FVec Ideal S64x512 .f32) = z
    exact congrArg z (congr (congrArg ix2 (Fin.ext (by simp only []; omega))) (Fin.ext (by simp only []; omega)))

variable (c : Dev nD) (i : grid3.Coords)
  (arg3 : Memref sig .tc .vmem S1x128x256 .fp8e4m3) (harg3 : arg3.IsWhole)
  (arg4 : Memref sig .tc .vmem S1x4096x128 .fp8e4m3) (harg4 : arg4.IsWhole)
  (arg5 : Memref sig .tc .vmem S1x64x4096 .fp8e4m3) (harg5 : arg5.IsWhole)
  (arg6 : Memref sig .tc .vmem S1x1x1x1x512 .f32) (harg6 : arg6.IsWhole)
  (arg7 : Memref sig .tc .vmem S1x1x32x128 .f32) (harg7 : arg7.IsWhole)
  (arg8 : Memref sig .tc .vmem S1x1x32x128 .f32) (harg8 : arg8.IsWhole)
  (arg9 : Memref sig .tc .vmem S1x128x256 .bf16) (harg9 : arg9.IsWhole)
  (arg10 : Memref sig .tc .vmem S4096x512 .f32) (harg10 : arg10.IsWhole)
  (arg11 : Memref sig .tc .vmem S32x512 .f32) (harg11 : arg11.IsWhole)
  (arg12 : Memref sig .tc .vmem S32x512 .f32) (harg12 : arg12.IsWhole)
  (arg13 : Memref sig .tc .vmem S32x512 .f32) (harg13 : arg13.IsWhole)
  (arg14 : Memref sig .tc .vmem S32x512 .f32) (harg14 : arg14.IsWhole)
  (arg15 : Memref sig .tc .vmem S32x512 .f32) (harg15 : arg15.IsWhole)
  (x0 : Vec Ideal S1x128x256 .fp8e4m3) (x1 : Vec Ideal S1x4096x128 .fp8e4m3) (x2 : Vec Ideal S1x64x4096 .fp8e4m3)
  (x3 : Vec Ideal S1x1x1x1x512 .f32) (x4 : Vec Ideal S1x1x32x128 .f32) (x5 : Vec Ideal S1x1x32x128 .f32)

/-- A row's output: the sum of products over the sum of probabilities. -/
def attn (d : Fin 64) (L : Fin 512) : EReal :=
  Ideal.div (∑ n, oterm i x0 x1 x2 x3 x4 x5 d L n) (∑ r : Fin 8, ∑ n, lterm i x0 x1 x3 x4 r L n)

theorem out3_apply (q : Fin 128) (l : Fin 256) :
    Gen.out3_A_6 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 (ix3 0 q l)
      = attn i x0 x1 x2 x3 x4 x5 (⟨l.val % 64, Nat.mod_lt _ (by norm_num)⟩ : Fin 64) (⟨l.val / 64 * 128 + q.val, by omega⟩ : Fin 512) := by
  have h := out_read (Gen.kernelRun3_A.sl.v1055 (F := Ideal) c i arg3 harg3 arg4 harg4 arg5 harg5 arg6 harg6 arg7 harg7 arg8 harg8 arg10 arg11 arg12 arg13 arg15 x0 x1 x2 x3 x4 x5) (Gen.kernelRun3_A.sl.v1080 (F := Ideal) c i arg3 harg3 arg4 harg4 arg5 harg5 arg6 harg6 arg7 harg7 arg8 harg8 arg10 arg11 arg12 arg13 arg15 x0 x1 x2 x3 x4 x5) (Gen.kernelRun3_A.sl.v1069 (F := Ideal) c i arg3 harg3 arg4 harg4 arg6 harg6 arg7 harg7 arg10 arg11 arg12 arg13 arg14 x0 x1 x3 x4) q l
  refine Eq.trans h ?_
  rw [quot_apply, osum_32, lsum_32]
  unfold attn
  simp only [osum, lsum, upto_all]
  rfl

end Cert.KernelIdeal.Val

end
-- ==== Proof.AttnRow.lean ====
/- One row of the attention, from its scores, their factors, the values and the values' scales: as the kernel sums it. -/
module

public import proofs.«01_k».proof.Proof.Exponent

@[expose] public section

noncomputable section

namespace Cert.Spec

open Idealize.ShloMosaic

/-- Key `j` of block `n`. -/
def key (n : Fin 32) (j : Fin 128) : Fin 4096 := ⟨128 * n.val + j.val, by omega⟩

/-- The largest score of a block of keys. -/
def smaxR (s : Fin 4096 → EReal) (n : Fin 32) : EReal := Finset.univ.sup fun j : Fin 128 => s (key n j)

/-- The row's largest scaled score. -/
def rmaxR (s : Fin 4096 → EReal) (cf : Fin 32 → EReal) : EReal := Finset.univ.sup fun n : Fin 32 => smaxR s n * cf n

/-- A block's largest probability before the division. -/
def ptopR (s : Fin 4096 → EReal) (cf : Fin 32 → EReal) (n : Fin 32) : EReal := Ideal.exp (smaxR s n * cf n - rmaxR s cf)

/-- A probability before the division, over its block's power of two. -/
def probR (s : Fin 4096 → EReal) (cf : Fin 32 → EReal) (n : Fin 32) (j : Fin 128) : EReal :=
  Ideal.exp2 (s (key n j) * (cf n * (((Real.log 2)⁻¹ : ℝ) : EReal))
    - (rmaxR s cf * (((Real.log 2)⁻¹ : ℝ) : EReal) + (((kexp (ptopR s cf n)).toInt : ℝ) : EReal)))

/-- The row's output in one channel. -/
def attnR (s : Fin 4096 → EReal) (cf : Fin 32 → EReal) (v : Fin 4096 → EReal) (vs : Fin 32 → EReal) : EReal :=
  Ideal.div (∑ n : Fin 32, (∑ j : Fin 128, v (key n j) * min hi (max lo (probR s cf n j))) * (pow2 (kexp (ptopR s cf n)) * vs n))
    (∑ r : Fin 8, ∑ n : Fin 32, (∑ u : Fin 16, probR s cf n ⟨8 * u.val + r.val, by omega⟩) * pow2 (kexp (ptopR s cf n)))

end Cert.Spec

end
-- ==== Proof.Array3.lean ====
/- What the attention's output array holds after the call, from the call's input arrays. -/
module

public import proofs.«01_k».proof.Proof.AttnBlock
public import proofs.«01_k».proof.Proof.AttnRow
public import Idealize.ShloMosaic.Lib.Pipeline.Covers

@[expose] public section

set_option maxRecDepth 16384

noncomputable section

namespace Cert.KernelIdeal.Val

open Idealize.ShloMosaic Idealize.ShloMosaic.TcCoe Idealize.ShloMosaic.Pipeline Idealize.SL Cert.KernelIdeal

theorem attn_eq (i : grid3.Coords) (x0 : Vec Ideal S1x128x256 .fp8e4m3) (x1 : Vec Ideal S1x4096x128 .fp8e4m3) (x2 : Vec Ideal S1x64x4096 .fp8e4m3)
    (x3 : Vec Ideal S1x1x1x1x512 .f32) (x4 : Vec Ideal S1x1x32x128 .f32) (x5 : Vec Ideal S1x1x32x128 .f32) (d : Fin 64) (L : Fin 512) :
    attn i x0 x1 x2 x3 x4 x5 d L = Spec.attnR (fun k => sc i x0 x1 k L) (fun n => fac x3 x4 n L) (fun k => x2 (ix3 0 d k))
      (fun n => x5 (ix4 0 0 n (⟨L.val % 128, Nat.mod_lt _ (by norm_num)⟩ : Fin 128))) := rfl

theorem e3_0 : ∀ t : Fin cfg3.N, win3_0.index t = ![(grid3.coords t 0).val, (grid3.coords t 2).val, (grid3.coords t 1).val] :=
  (by decide +kernel : ∀ t : Fin grid3.N, _)

theorem e3_1 : ∀ t : Fin cfg3.N, win3_1.index t = ![(grid3.coords t 0).val, 0, (grid3.coords t 1).val / 2] :=
  (by decide +kernel : ∀ t : Fin grid3.N, _)

theorem e3_2 : ∀ t : Fin cfg3.N, win3_2.index t = ![(grid3.coords t 0).val, (grid3.coords t 1).val, 0] :=
  (by decide +kernel : ∀ t : Fin grid3.N, _)

theorem e3_3 : ∀ t : Fin cfg3.N, win3_3.index t = ![(grid3.coords t 0).val, (grid3.coords t 2).val, (grid3.coords t 1).val, 0, 0] :=
  (by decide +kernel : ∀ t : Fin grid3.N, _)

theorem e3_4 : ∀ t : Fin cfg3.N, win3_4.index t = ![(grid3.coords t 0).val, (grid3.coords t 1).val, 0, 0] :=
  (by decide +kernel : ∀ t : Fin grid3.N, _)

theorem e3_5 : ∀ t : Fin cfg3.N, win3_5.index t = ![(grid3.coords t 0).val, (grid3.coords t 1).val, 0, 0] :=
  (by decide +kernel : ∀ t : Fin grid3.N, _)

theorem e3_6 : ∀ t : Fin cfg3.N, win3_6.index t = ![(grid3.coords t 0).val, (grid3.coords t 2).val, (grid3.coords t 1).val] :=
  (by decide +kernel : ∀ t : Fin grid3.N, _)

theorem covers3 : (cfg3.win 6).Covers :=
  (cfg3.win 6).covers_of_indexMap_surj rfl (by decide) fun β => by
    have h0 : (β 0).val < 8 := (β 0).isLt
    have h1 : (β 1).val < 32 := (β 1).isLt
    have h2 : (β 2).val < 4 := (β 2).isLt
    refine ⟨fun a => ⟨(![(β 0).val, (β 2).val, (β 1).val] : Fin 3 → ℕ) a, by fin_cases a; exacts [h0, h2, h1]⟩, fun a => ?_⟩
    fin_cases a
    · exact Nat.mod_eq_of_lt (by change (β 0).val < 2 ^ 32; omega)
    · exact Nat.mod_eq_of_lt (by change (β 1).val < 2 ^ 32; omega)
    · exact Nat.mod_eq_of_lt (by change (β 2).val < 2 ^ 32; omega)

variable (V : (c : Dev nD) → (b : Ref sig .tc) → Buf (Elt Ideal) ((c : Thread nD τ).loc b))

/-- The queries' codes. -/
abbrev in3_0 (c : Dev nD) : FVec Ideal S8x4096x1024 .fp8e4m3 := V c (Pipeline.arrRef spec3 0)
/-- The keys' codes. -/
abbrev in3_1 (c : Dev nD) : FVec Ideal S8x4096x256 .fp8e4m3 := V c (Pipeline.arrRef spec3 1)
/-- The values' codes, channel by key. -/
abbrev in3_2 (c : Dev nD) : FVec Ideal S8x256x4096 .fp8e4m3 := V c (Pipeline.arrRef spec3 2)
/-- The queries' scales, by query block, head and lane. -/
abbrev in3_3 (c : Dev nD) : FVec Ideal S8x32x4x1x512 .f32 := V c (Pipeline.arrRef spec3 3)
/-- The keys' scales. -/
abbrev in3_4 (c : Dev nD) : FVec Ideal S8x4x32x128 .f32 := V c (Pipeline.arrRef spec3 4)
/-- The values' scales. -/
abbrev in3_5 (c : Dev nD) : FVec Ideal S8x4x32x128 .f32 := V c (Pipeline.arrRef spec3 5)

theorem lt0 (t : Fin cfg3.N) : (grid3.coords t 0).val < 8 := (grid3.coords t 0).isLt
theorem lt1 (t : Fin cfg3.N) : (grid3.coords t 1).val < 4 := (grid3.coords t 1).isLt
theorem lt2 (t : Fin cfg3.N) : (grid3.coords t 2).val < 32 := (grid3.coords t 2).isLt

theorem blk3_0 (c : Dev nD) (t : Fin cfg3.N) (q : Fin 128) (l : Fin 256) : (Gen.iblk3 V c 0 t : Vec Ideal S1x128x256 .fp8e4m3) (ix3 0 q l) =
    in3_0 V c (ix3 (⟨(grid3.coords t 0).val, lt0 t⟩ : Fin 8) (⟨(grid3.coords t 2).val * 128 + q.val, by have := lt2 t; omega⟩ : Fin 4096)
      (⟨(grid3.coords t 1).val * 256 + l.val, by have := lt1 t; omega⟩ : Fin 1024)) := by
  blk_simp [Gen.iblk3]
  refine congrArg (in3_0 V c) ?_
  blk_ext [e3_0]

theorem blk3_1 (c : Dev nD) (t : Fin cfg3.N) (q : Fin 4096) (l : Fin 128) : (Gen.iblk3 V c 1 t : Vec Ideal S1x4096x128 .fp8e4m3) (ix3 0 q l) =
    in3_1 V c (ix3 (⟨(grid3.coords t 0).val, lt0 t⟩ : Fin 8) q
      (⟨(grid3.coords t 1).val / 2 * 128 + l.val, by have := lt1 t; omega⟩ : Fin 256)) := by
  blk_simp [Gen.iblk3]
  refine congrArg (in3_1 V c) ?_
  blk_ext [e3_1]

theorem blk3_2 (c : Dev nD) (t : Fin cfg3.N) (q : Fin 64) (l : Fin 4096) : (Gen.iblk3 V c 2 t : Vec Ideal S1x64x4096 .fp8e4m3) (ix3 0 q l) =
    in3_2 V c (ix3 (⟨(grid3.coords t 0).val, lt0 t⟩ : Fin 8)
      (⟨(grid3.coords t 1).val * 64 + q.val, by have := lt1 t; omega⟩ : Fin 256) l) := by
  blk_simp [Gen.iblk3]
  refine congrArg (in3_2 V c) ?_
  blk_ext [e3_2]

theorem blk3_3 (c : Dev nD) (t : Fin cfg3.N) (l : Fin 512) : (Gen.iblk3 V c 3 t : Vec Ideal S1x1x1x1x512 .f32) (ix5 0 0 0 0 l) =
    in3_3 V c (ix5 (⟨(grid3.coords t 0).val, lt0 t⟩ : Fin 8) (⟨(grid3.coords t 2).val, lt2 t⟩ : Fin 32) (⟨(grid3.coords t 1).val, lt1 t⟩ : Fin 4) 0 l) := by
  blk_simp [Gen.iblk3]
  refine congrArg (in3_3 V c) ?_
  blk_ext [e3_3]

theorem blk3_4 (c : Dev nD) (t : Fin cfg3.N) (n : Fin 32) (l : Fin 128) : (Gen.iblk3 V c 4 t : Vec Ideal S1x1x32x128 .f32) (ix4 0 0 n l) =
    in3_4 V c (ix4 (⟨(grid3.coords t 0).val, lt0 t⟩ : Fin 8) (⟨(grid3.coords t 1).val, lt1 t⟩ : Fin 4) n l) := by
  blk_simp [Gen.iblk3]
  refine congrArg (in3_4 V c) ?_
  blk_ext [e3_4]

theorem blk3_5 (c : Dev nD) (t : Fin cfg3.N) (n : Fin 32) (l : Fin 128) : (Gen.iblk3 V c 5 t : Vec Ideal S1x1x32x128 .f32) (ix4 0 0 n l) =
    in3_5 V c (ix4 (⟨(grid3.coords t 0).val, lt0 t⟩ : Fin 8) (⟨(grid3.coords t 1).val, lt1 t⟩ : Fin 4) n l) := by
  blk_simp [Gen.iblk3]
  refine congrArg (in3_5 V c) ?_
  blk_ext [e3_5]

/-- The attention of one output element, from the call's input arrays. -/
def attnA (Q : FVec Ideal S8x4096x1024 .fp8e4m3) (K : FVec Ideal S8x4096x256 .fp8e4m3) (X : FVec Ideal S8x256x4096 .fp8e4m3)
    (Qs : FVec Ideal S8x32x4x1x512 .f32) (Ks Vs : FVec Ideal S8x4x32x128 .f32) (b : Fin 8) (w : Fin 4096) (l : Fin 1024) : EReal :=
  Spec.attnR
    (fun k => ∑ d : Fin 64, (K (ix3 b k (⟨l.val / 256 * 64 + d.val, by omega⟩ : Fin 256)) : EReal) * Q (ix3 b w (⟨l.val / 64 * 64 + d.val, by omega⟩ : Fin 1024)))
    (fun n => ((Qs (ix5 b (⟨w.val / 128, by omega⟩ : Fin 32) (⟨l.val / 256, by omega⟩ : Fin 4) 0 (⟨l.val % 256 / 64 * 128 + w.val % 128, by omega⟩ : Fin 512)) : EReal)
      * Ks (ix4 b (⟨l.val / 256, by omega⟩ : Fin 4) n (⟨w.val % 128, by omega⟩ : Fin 128))) * Ideal.ofBits .f32 0x3E000000#32)
    (fun k => X (ix3 b (⟨l.val / 256 * 64 + l.val % 64, by omega⟩ : Fin 256) k))
    (fun n => Vs (ix4 b (⟨l.val / 256, by omega⟩ : Fin 4) n (⟨w.val % 128, by omega⟩ : Fin 128)))

/-- A block's attention is that of the arrays. -/
theorem attn_block (c : Dev nD) (t : Fin cfg3.N) (q : Fin 128) (l : Fin 256) :
    attn (grid3.coords t) (Gen.iblk3 V c 0 t) (Gen.iblk3 V c 1 t) (Gen.iblk3 V c 2 t) (Gen.iblk3 V c 3 t) (Gen.iblk3 V c 4 t) (Gen.iblk3 V c 5 t)
      (⟨l.val % 64, Nat.mod_lt _ (by norm_num)⟩ : Fin 64) (⟨l.val / 64 * 128 + q.val, by omega⟩ : Fin 512)
    = attnA (in3_0 V c) (in3_1 V c) (in3_2 V c) (in3_3 V c) (in3_4 V c) (in3_5 V c) ⟨(grid3.coords t 0).val, lt0 t⟩
        (⟨(grid3.coords t 2).val * 128 + q.val, by have := lt2 t; omega⟩ : Fin 4096) (⟨(grid3.coords t 1).val * 256 + l.val, by have := lt1 t; omega⟩ : Fin 1024) := by
  have h1 := lt1 t
  have h2 := lt2 t
  have hl := l.isLt
  have hq := q.isLt
  rw [attn_eq]
  unfold attnA
  congr 1
  · funext k
    unfold sc score par
    refine Finset.sum_congr rfl fun d _ => ?_
    rw [blk3_0, blk3_1]
    refine congr (congrArg HMul.hMul (congrArg (in3_1 V c) (congrArg (ix3 _ k) (Fin.ext ?_)))) (congrArg (in3_0 V c) (congr (congrArg (ix3 _) (Fin.ext ?_)) (Fin.ext ?_)))
    · dsimp only; omega
    · dsimp only; omega
    · dsimp only; omega
  · funext n
    unfold fac
    rw [blk3_3, blk3_4]
    refine congrArg (· * _) (congr (congrArg HMul.hMul (congrArg (in3_3 V c) ?_)) (congrArg (in3_4 V c) ?_))
    · exact congr (congr (congr (congrArg (ix5 _) (Fin.ext (by dsimp only; omega))) (Fin.ext (by dsimp only; omega))) rfl) (Fin.ext (by dsimp only; omega))
    · exact congr (congr (congrArg (ix4 _) (Fin.ext (by dsimp only; omega))) rfl) (Fin.ext (by dsimp only; omega))
  · funext k
    rw [blk3_2]
    exact congrArg (in3_2 V c) (congr (congrArg (ix3 _) (Fin.ext (by dsimp only; omega))) rfl)
  · funext n
    rw [blk3_5]
    exact congrArg (in3_5 V c) (congr (congr (congrArg (ix4 _) (Fin.ext (by dsimp only; omega))) rfl) (Fin.ext (by dsimp only; omega)))

theorem arrayA3 (c : Dev nD) : (Gen.dat3 V c).arrAt 6 cfg3.N = fun y : S8x4096x1024.Idx =>
    attnA (in3_0 V c) (in3_1 V c) (in3_2 V c) (in3_3 V c) (in3_4 V c) (in3_5 V c) (y 0) (y 1) (y 2) := by
  refine (Gen.dat3 V c).arrAt_eq_of_covers 6 _ covers3 fun t hf y => ?_
  blk_simp
  rw [Gen.after3_6]
  idx_vars y
  obtain rfl : y0 = 0 := Subsingleton.elim _ _
  unfold Gen.outsAt3
  rw [out3_apply, attn_block]
  refine congr (congr (congrArg (attnA _ _ _ _ _ _) (Fin.ext ?_)) (Fin.ext ?_)) (Fin.ext ?_)
  · blk_simp [e3_6]
    try simp
  · blk_simp [e3_6]
    try simp
  · blk_simp [e3_6]
    try simp

end Cert.KernelIdeal.Val

end
-- ==== Proof.KernelHost.lean ====
/- The host operations before the attention call: what each of their results holds, from the quantisers' scales. -/
module

public import proofs.«01_k».proof.Proof.Gen.KernelIdeal.Frame
public import Idealize.ShloMosaic.Lib.Pointwise

@[expose] public section

set_option maxRecDepth 16384

noncomputable section

namespace Cert.KernelIdeal.Val

open Idealize.ShloMosaic Idealize.ShloMosaic.TcCoe Idealize.ShloMosaic.Pipeline Idealize.ShloMosaic.StableHlo Idealize.SL Cert.KernelIdeal

variable (X : Valuation τ sig (Elt Ideal))

theorem after_v3 : StableHlo.after (Gen.hostOps3 (F := Ideal)) X (Proc.devRef .tc main_v3)
    = fun y : S8x32x16.Idx => (X (Proc.devRef .tc main_v0_1) : FVec Ideal S8x32x1024 .f32) (ix3 (y 0) (y 1) (⟨64 * (y 2).val, by have := (y 2).isLt; change _ < 16 at this; omega⟩ : Fin 1024)) := by
  unfold Gen.hostOps3
  after_results
  funext y
  idx_vars y
  pointwise []

theorem after_v4 : StableHlo.after (Gen.hostOps3 (F := Ideal)) X (Proc.devRef .tc main_v4)
    = fun y : S8x32x4.Idx => (X (Proc.devRef .tc main_v1_1) : FVec Ideal S8x32x256 .f32) (ix3 (y 0) (y 1) (⟨64 * (y 2).val, by have := (y 2).isLt; change _ < 4 at this; omega⟩ : Fin 256)) := by
  unfold Gen.hostOps3
  after_results
  funext y
  idx_vars y
  pointwise []

theorem after_v5 : StableHlo.after (Gen.hostOps3 (F := Ideal)) X (Proc.devRef .tc main_v5)
    = fun y : S8x32x4.Idx => (X (Proc.devRef .tc main_v2_1) : FVec Ideal S8x32x256 .f32) (ix3 (y 0) (y 1) (⟨64 * (y 2).val, by have := (y 2).isLt; change _ < 4 at this; omega⟩ : Fin 256)) := by
  unfold Gen.hostOps3
  after_results
  funext y
  idx_vars y
  pointwise []

/-- The queries' scales as the attention call reads them. -/
theorem after_v8 (b : Fin 8) (t : Fin 32) (g : Fin 4) (L : Fin 512) : (StableHlo.after (Gen.hostOps3 (F := Ideal)) X (Proc.devRef .tc main_v8) : FVec Ideal S8x32x4x1x512 .f32) (ix5 b t g 0 L)
    = (X (Proc.devRef .tc main_v0_1) : FVec Ideal S8x32x1024 .f32) (ix3 b t (⟨64 * (4 * g.val + L.val / 128), by omega⟩ : Fin 1024)) := by
  unfold Gen.hostOps3
  after_results
  generalize (X (Proc.devRef .tc main_v0_1) : FVec Ideal S8x32x1024 .f32) = x
  pointwise []
  all_goals exact congrArg x (congrArg (ix3 b t) (Fin.ext (by simp only []; omega)))

theorem after_v11 (b : Fin 8) (g : Fin 4) (n : Fin 32) (q : Fin 128) : (StableHlo.after (Gen.hostOps3 (F := Ideal)) X (Proc.devRef .tc main_v11) : FVec Ideal S8x4x32x128 .f32) (ix4 b g n q)
    = (X (Proc.devRef .tc main_v1_1) : FVec Ideal S8x32x256 .f32) (ix3 b n (⟨64 * g.val, by omega⟩ : Fin 256)) := by
  unfold Gen.hostOps3
  after_results
  pointwise []

theorem after_v14 (b : Fin 8) (g : Fin 4) (n : Fin 32) (q : Fin 128) : (StableHlo.after (Gen.hostOps3 (F := Ideal)) X (Proc.devRef .tc main_v14) : FVec Ideal S8x4x32x128 .f32) (ix4 b g n q)
    = (X (Proc.devRef .tc main_v2_1) : FVec Ideal S8x32x256 .f32) (ix3 b n (⟨64 * g.val, by omega⟩ : Fin 256)) := by
  unfold Gen.hostOps3
  after_results
  pointwise []

end Cert.KernelIdeal.Val

end
-- ==== Proof.KernelLaunch.lean ====
/- The kernel's launch, read at every buffer: the contents the segments leave. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with each unscoped buffer at the last segment's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.KernelIdeal.Gen

end
-- ==== Proof.KernelRun.lean ====
/- The kernel's run: what each of its seven results holds at the end, from the contents it was launched with. -/
module

public import proofs.«01_k».proof.Proof.Array0
public import proofs.«01_k».proof.Proof.Array1
public import proofs.«01_k».proof.Proof.Array2
public import proofs.«01_k».proof.Proof.Array3
public import proofs.«01_k».proof.Proof.KernelHost
public import proofs.«01_k».proof.Proof.KernelLaunch

@[expose] public section

set_option maxRecDepth 16384

noncomputable section

namespace Cert.KernelIdeal.Val

open Idealize.ShloMosaic Idealize.ShloMosaic.TcCoe Idealize.ShloMosaic.Pipeline Idealize.SL Cert.KernelIdeal

/-- The queries' codes. -/
def kq0 (X : FVec Ideal S8x4096x1024 .bf16) : S8x4096x1024.Idx → EReal := fun y =>
  Spec.kcode (X y) (top0 X (y 0) ⟨(y 1).val / 128, by have := (y 1).isLt; change _ < 4096 at this; omega⟩ ⟨(y 2).val / 64, by have := (y 2).isLt; change _ < 1024 at this; omega⟩)

/-- The keys' codes. -/
def kq1 (X : FVec Ideal S8x4096x256 .bf16) : S8x4096x256.Idx → EReal := fun y =>
  Spec.kcode (X y) (top1 X (y 0) ⟨(y 1).val / 128, by have := (y 1).isLt; change _ < 4096 at this; omega⟩ ⟨(y 2).val / 64, by have := (y 2).isLt; change _ < 256 at this; omega⟩)

/-- The values' codes. -/
def kq2 (X : FVec Ideal S8x4096x256 .bf16) : S8x4096x256.Idx → EReal := fun y =>
  Spec.kcode (X y) (top2 X (y 0) ⟨(y 1).val / 128, by have := (y 1).isLt; change _ < 4096 at this; omega⟩ ⟨(y 2).val / 64, by have := (y 2).isLt; change _ < 256 at this; omega⟩)

/-- The queries' scales. -/
def ks0 (X : FVec Ideal S8x4096x1024 .bf16) : S8x32x16.Idx → EReal := fun y => Spec.pow2 (Spec.kexp (top0 X (y 0) (y 1) (y 2)))

/-- The keys' scales. -/
def ks1 (X : FVec Ideal S8x4096x256 .bf16) : S8x32x4.Idx → EReal := fun y => Spec.pow2 (Spec.kexp (top1 X (y 0) (y 1) (y 2)))

/-- The values' scales. -/
def ks2 (X : FVec Ideal S8x4096x256 .bf16) : S8x32x4.Idx → EReal := fun y => Spec.pow2 (Spec.kexp (top2 X (y 0) (y 1) (y 2)))

variable (m : (ℓ : Loc nD τ sig) → Buf (Elt Ideal) ℓ) (ρ : Dev nD → PrngReg)

abbrev argX (c : Dev nD) : FVec Ideal S8x4096x1024 .bf16 := m ((c : Thread nD τ).loc main_arg0)
abbrev argK (c : Dev nD) : FVec Ideal S8x4096x256 .bf16 := m ((c : Thread nD τ).loc main_arg1)
abbrev argV (c : Dev nD) : FVec Ideal S8x4096x256 .bf16 := m ((c : Thread nD τ).loc main_arg2)

theorem V0_arg0 (c : Dev nD) : in0 (Gen.V0 m ρ) c = argX m c := rfl
theorem V1_arg1 (c : Dev nD) : in1 (Gen.V1 m ρ) c = argK m c := Gen.W1_args m ρ c main_arg1 (by decide)
theorem V2_arg2 (c : Dev nD) : in2 (Gen.V2 m ρ) c = argV m c := Gen.W2_args m ρ c main_arg2 (by decide)

theorem W3_v0_0 (c : Dev nD) : Gen.W3 m ρ c (Proc.devRef .tc main_v0_0) = kq0 (argX m c) :=
  ((Gen.W3_of m ρ c main_v0_0 (by decide)).trans ((Gen.W2_of m ρ c main_v0_0 (by decide)).trans (Gen.W1_arr m ρ c 1))).trans (codesA0 (Gen.V0 m ρ) c)

theorem W3_v0_1 (c : Dev nD) : Gen.W3 m ρ c (Proc.devRef .tc main_v0_1)
    = fun y : S8x32x1024.Idx => Spec.pow2 (Spec.kexp (top0 (argX m c) (y 0) (y 1) ⟨(y 2).val / 64, by have := (y 2).isLt; change _ < 1024 at this; omega⟩)) :=
  ((Gen.W3_of m ρ c main_v0_1 (by decide)).trans ((Gen.W2_of m ρ c main_v0_1 (by decide)).trans (Gen.W1_arr m ρ c 2))).trans (scalesA0 (Gen.V0 m ρ) c)

theorem W3_v1_0 (c : Dev nD) : Gen.W3 m ρ c (Proc.devRef .tc main_v1_0) = kq1 (argK m c) := by
  refine ((Gen.W3_of m ρ c main_v1_0 (by decide)).trans (Gen.W2_arr m ρ c 1)).trans ((codesA1 (Gen.V1 m ρ) c).trans ?_)
  rw [V1_arg1]
  rfl

theorem W3_v1_1 (c : Dev nD) : Gen.W3 m ρ c (Proc.devRef .tc main_v1_1)
    = fun y : S8x32x256.Idx => Spec.pow2 (Spec.kexp (top1 (argK m c) (y 0) (y 1) ⟨(y 2).val / 64, by have := (y 2).isLt; change _ < 256 at this; omega⟩)) := by
  refine ((Gen.W3_of m ρ c main_v1_1 (by decide)).trans (Gen.W2_arr m ρ c 2)).trans ((scalesA1 (Gen.V1 m ρ) c).trans ?_)
  rw [V1_arg1]

theorem W3_v2_0 (c : Dev nD) : Gen.W3 m ρ c (Proc.devRef .tc main_v2_0) = kq2 (argV m c) := by
  refine (Gen.W3_arr m ρ c 1).trans ((codesA2 (Gen.V2 m ρ) c).trans ?_)
  rw [V2_arg2]
  rfl

theorem W3_v2_1 (c : Dev nD) : Gen.W3 m ρ c (Proc.devRef .tc main_v2_1)
    = fun y : S8x32x256.Idx => Spec.pow2 (Spec.kexp (top2 (argV m c) (y 0) (y 1) ⟨(y 2).val / 64, by have := (y 2).isLt; change _ < 256 at this; omega⟩)) := by
  refine (Gen.W3_arr m ρ c 2).trans ((scalesA2 (Gen.V2 m ρ) c).trans ?_)
  rw [V2_arg2]

theorem W3_v2_2 (c : Dev nD) : Gen.W3 m ρ c (Proc.devRef .tc main_v2_2) = fun y : S8x256x4096.Idx => kq2 (argV m c) (ix3 (y 0) (y 2) (y 1)) := by
  refine (Gen.W3_arr m ρ c 3).trans ((codesTA2 (Gen.V2 m ρ) c).trans ?_)
  rw [V2_arg2]
  rfl

/-- The seven results. -/
theorem W5_v0_0 (c : Dev nD) : Gen.W5 m ρ c (Proc.devRef .tc main_v0_0) = kq0 (argX m c) :=
  ((Gen.W5_of m ρ c main_v0_0 (by decide)).trans (Gen.W4_of m ρ c main_v0_0 (by decide))).trans (W3_v0_0 m ρ c)

theorem W5_v1_0 (c : Dev nD) : Gen.W5 m ρ c (Proc.devRef .tc main_v1_0) = kq1 (argK m c) :=
  ((Gen.W5_of m ρ c main_v1_0 (by decide)).trans (Gen.W4_of m ρ c main_v1_0 (by decide))).trans (W3_v1_0 m ρ c)

theorem W5_v2_0 (c : Dev nD) : Gen.W5 m ρ c (Proc.devRef .tc main_v2_0) = kq2 (argV m c) :=
  ((Gen.W5_of m ρ c main_v2_0 (by decide)).trans (Gen.W4_of m ρ c main_v2_0 (by decide))).trans (W3_v2_0 m ρ c)

theorem W5_v3 (c : Dev nD) : Gen.W5 m ρ c (Proc.devRef .tc main_v3) = ks0 (argX m c) := by
  refine (Gen.W5_of m ρ c main_v3 (by decide)).trans ((after_v3 (Gen.W3 m ρ c)).trans ?_)
  rw [W3_v0_1]
  funext y
  exact congrArg (fun e => Spec.pow2 (Spec.kexp e)) (top0_congr _ rfl rfl (Fin.ext (by dsimp [ix3]; omega)))

theorem W5_v4 (c : Dev nD) : Gen.W5 m ρ c (Proc.devRef .tc main_v4) = ks1 (argK m c) := by
  refine (Gen.W5_of m ρ c main_v4 (by decide)).trans ((after_v4 (Gen.W3 m ρ c)).trans ?_)
  rw [W3_v1_1]
  funext y
  exact congrArg (fun e => Spec.pow2 (Spec.kexp e)) (top1_congr _ rfl rfl (Fin.ext (by dsimp [ix3]; omega)))

theorem W5_v5 (c : Dev nD) : Gen.W5 m ρ c (Proc.devRef .tc main_v5) = ks2 (argV m c) := by
  refine (Gen.W5_of m ρ c main_v5 (by decide)).trans ((after_v5 (Gen.W3 m ρ c)).trans ?_)
  rw [W3_v2_1]
  funext y
  exact congrArg (fun e => Spec.pow2 (Spec.kexp e)) (top2_congr _ rfl rfl (Fin.ext (by dsimp [ix3]; omega)))

/-- The attention's output, from the codes and scales. -/
def ky (X : FVec Ideal S8x4096x1024 .bf16) (K V : FVec Ideal S8x4096x256 .bf16) : S8x4096x1024.Idx → EReal := fun y =>
  have h1 : (y 1).val < 4096 := (y 1).isLt
  have h2 : (y 2).val < 1024 := (y 2).isLt
  Spec.attnR
    (fun k => ∑ d : Fin 64, kq1 K (ix3 (y 0) k (⟨(y 2).val / 256 * 64 + d.val, by omega⟩ : Fin 256)) * kq0 X (ix3 (y 0) (y 1) (⟨(y 2).val / 64 * 64 + d.val, by omega⟩ : Fin 1024)))
    (fun n => (ks0 X (ix3 (y 0) (⟨(y 1).val / 128, by omega⟩ : Fin 32) (⟨(y 2).val / 64, by omega⟩ : Fin 16))
      * ks1 K (ix3 (y 0) n (⟨(y 2).val / 256, by omega⟩ : Fin 4))) * Ideal.ofBits .f32 0x3E000000#32)
    (fun k => kq2 V (ix3 (y 0) k (⟨(y 2).val / 256 * 64 + (y 2).val % 64, by omega⟩ : Fin 256)))
    (fun n => ks2 V (ix3 (y 0) n (⟨(y 2).val / 256, by omega⟩ : Fin 4)))

theorem W4_v0_0 (c : Dev nD) : in3_0 (Gen.V4 m ρ) c = kq0 (argX m c) := (Gen.W4_of m ρ c main_v0_0 (by decide)).trans (W3_v0_0 m ρ c)
theorem W4_v1_0 (c : Dev nD) : in3_1 (Gen.V4 m ρ) c = kq1 (argK m c) := (Gen.W4_of m ρ c main_v1_0 (by decide)).trans (W3_v1_0 m ρ c)
theorem W4_v2_2 (c : Dev nD) : in3_2 (Gen.V4 m ρ) c = fun y : S8x256x4096.Idx => kq2 (argV m c) (ix3 (y 0) (y 2) (y 1)) :=
  (Gen.W4_of m ρ c main_v2_2 (by decide)).trans (W3_v2_2 m ρ c)

theorem W4_v8 (c : Dev nD) (b : Fin 8) (t : Fin 32) (g : Fin 4) (L : Fin 512) : in3_3 (Gen.V4 m ρ) c (ix5 b t g 0 L)
    = ks0 (argX m c) (ix3 b t (⟨4 * g.val + L.val / 128, by omega⟩ : Fin 16)) := by
  refine (after_v8 (Gen.W3 m ρ c) b t g L).trans ?_
  rw [W3_v0_1]
  exact congrArg (fun e => Spec.pow2 (Spec.kexp e)) (top0_congr _ rfl rfl (Fin.ext (by dsimp [ix3]; omega)))

theorem W4_v11 (c : Dev nD) (b : Fin 8) (g : Fin 4) (n : Fin 32) (q : Fin 128) : in3_4 (Gen.V4 m ρ) c (ix4 b g n q) = ks1 (argK m c) (ix3 b n g) := by
  refine (after_v11 (Gen.W3 m ρ c) b g n q).trans ?_
  rw [W3_v1_1]
  exact congrArg (fun e => Spec.pow2 (Spec.kexp e)) (top1_congr _ rfl rfl (Fin.ext (by dsimp [ix3]; omega)))

theorem W4_v14 (c : Dev nD) (b : Fin 8) (g : Fin 4) (n : Fin 32) (q : Fin 128) : in3_5 (Gen.V4 m ρ) c (ix4 b g n q) = ks2 (argV m c) (ix3 b n g) := by
  refine (after_v14 (Gen.W3 m ρ c) b g n q).trans ?_
  rw [W3_v2_1]
  exact congrArg (fun e => Spec.pow2 (Spec.kexp e)) (top2_congr _ rfl rfl (Fin.ext (by dsimp [ix3]; omega)))

theorem W5_v15 (c : Dev nD) : Gen.W5 m ρ c (Proc.devRef .tc main_v15) = ky (argX m c) (argK m c) (argV m c) := by
  refine (Gen.W5_arr m ρ c 6).trans ((arrayA3 (Gen.V4 m ρ) c).trans ?_)
  funext y
  have h1 : (y 1).val < 4096 := (y 1).isLt
  have h2 : (y 2).val < 1024 := (y 2).isLt
  rw [W4_v0_0, W4_v1_0, W4_v2_2]
  unfold attnA ky
  congr 1
  · funext n
    exact congrArg (fun e => e * Ideal.ofBits .f32 0x3E000000#32) (congr (congrArg HMul.hMul ((W4_v8 m ρ c _ _ _ _).trans
      (congrArg (ks0 (argX m c)) (congrArg (ix3 _ _) (Fin.ext (by dsimp only; omega)))))) (W4_v11 m ρ c _ _ _ _))
  · funext n
    exact W4_v14 m ρ c _ _ _ _

/-- Every fair execution ends with the seven results at these values and the arguments as launched. -/
theorem run : θ_run (defs (F := Ideal)) (onTc (τ := τ) (main (F := Ideal))) ⟨m, fun _ => 0, ρ⟩ (fun r => ∀ c : Dev nD,
      r.2.mem ((c.tc : Thread nD τ).loc main_v15) = ky (argX m c) (argK m c) (argV m c)
      ∧ r.2.mem ((c.tc : Thread nD τ).loc main_v0_0) = kq0 (argX m c)
      ∧ r.2.mem ((c.tc : Thread nD τ).loc main_v3) = ks0 (argX m c)
      ∧ r.2.mem ((c.tc : Thread nD τ).loc main_v1_0) = kq1 (argK m c)
      ∧ r.2.mem ((c.tc : Thread nD τ).loc main_v4) = ks1 (argK m c)
      ∧ r.2.mem ((c.tc : Thread nD τ).loc main_v2_0) = kq2 (argV m c)
      ∧ r.2.mem ((c.tc : Thread nD τ).loc main_v5) = ks2 (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c =>
      ⟨(h c _ (Gen.mem_uc main_v15 (by decide))).trans (W5_v15 m ρ c),
       (h c _ (Gen.mem_uc main_v0_0 (by decide))).trans (W5_v0_0 m ρ c),
       (h c _ (Gen.mem_uc main_v3 (by decide))).trans (W5_v3 m ρ c),
       (h c _ (Gen.mem_uc main_v1_0 (by decide))).trans (W5_v1_0 m ρ c),
       (h c _ (Gen.mem_uc main_v4 (by decide))).trans (W5_v4 m ρ c),
       (h c _ (Gen.mem_uc main_v2_0 (by decide))).trans (W5_v2_0 m ρ c),
       (h c _ (Gen.mem_uc main_v5 (by decide))).trans (W5_v5 m ρ c),
       (h c _ (Gen.mem_uc main_arg0 (by decide))).trans (Gen.W5_main_arg0 m ρ c),
       (h c _ (Gen.mem_uc main_arg1 (by decide))).trans (Gen.W5_main_arg1 m ρ c),
       (h c _ (Gen.mem_uc main_arg2 (by decide))).trans (Gen.W5_main_arg2 m ρ c)⟩) (Gen.run_all m ρ)

end Cert.KernelIdeal.Val

end
-- ==== Proof.RefReduce.lean ====
/- The reference's reductions at an index: which of the reduced array's elements each takes in. -/
module

public import proofs.«01_k».proof.Proof.Gen.ReferenceIdeal.Frame
public import proofs.«01_k».proof.Proof.Exponent
public import Idealize.ShloMosaic.Lib.Pointwise

@[expose] public section

set_option maxRecDepth 16384

noncomputable section

namespace Cert.ReferenceIdeal.Val

open Idealize.ShloMosaic Cert.ReferenceIdeal

/-- A maximum over the elements that drop to `j` is the supremum along any listing of them. -/
theorem max_of_fiber {s t : Shape} {axes : List (Fin s.rank)} {κ : Type} [Fintype κ] (h : s.Reduces axes t) (v : FVec Ideal s .f32) (j : t.Idx)
    (g : κ → s.Idx) (hg : Function.Injective g) (hp : ∀ i, h.drop i = j ↔ ∃ k, g k = i) :
    multiReduction .maximumf axes t v 0xFF800000#32 h (.inl rfl) rfl j = Finset.univ.sup fun k => v (g k) := by
  refine (multiReduction_maximumf_eq_fold v _ h _ _ j).trans ?_
  rw [Finset.fold_filter_eq_fold_of_fiber _ _ g hg hp]
  refine eq_of_forall_ge_iff fun z => ?_
  refine (Finset.fold_max_le z).trans ?_
  rw [Finset.sup_le_iff]
  refine and_iff_right ?_
  rw [show (FloatOps.ofBits .f32 0xFF800000#32 : Ideal .f32) = Ideal.ofBits .f32 0xFF800000#32 from rfl, Spec.ofBits_neg_inf]
  exact bot_le

theorem max24_16 (v : FVec Ideal S8x32x128x16x64 .f32) (b : Fin 8) (n : Fin 32) (h : Fin 16) :
    (multiReduction .maximumf [2, 4] S8x32x16 v 0xFF800000#32 Gen.reduces_S8x32x128x16x64_S8x32x16 (.inl rfl) rfl : FVec Ideal S8x32x16 .f32) (ix3 b n h)
      = Finset.univ.sup fun p : Fin 128 × Fin 64 => v (ix5 b n p.1 h p.2) :=
  max_of_fiber _ v _ (fun p : Fin 128 × Fin 64 => ix5 b n p.1 h p.2) (fun _ _ e => Prod.ext (congrFun e 2) (congrFun e 4)) fun i => by
    constructor
    · intro e
      refine ⟨(i 2, i 4), ?_⟩
      funext a; apply Fin.ext
      match a with
      | ⟨0, _⟩ => exact (congrArg Fin.val (congrFun e 0)).symm
      | ⟨1, _⟩ => exact (congrArg Fin.val (congrFun e 1)).symm
      | ⟨2, _⟩ => rfl
      | ⟨3, _⟩ => exact (congrArg Fin.val (congrFun e 2)).symm
      | ⟨4, _⟩ => rfl
    · rintro ⟨k, rfl⟩
      funext a; apply Fin.ext
      match a with
      | ⟨0, _⟩ => rfl
      | ⟨1, _⟩ => rfl
      | ⟨2, _⟩ => rfl

theorem max24_4 (v : FVec Ideal S8x32x128x4x64 .f32) (b : Fin 8) (n : Fin 32) (h : Fin 4) :
    (multiReduction .maximumf [2, 4] S8x32x4 v 0xFF800000#32 Gen.reduces_S8x32x128x4x64_S8x32x4 (.inl rfl) rfl : FVec Ideal S8x32x4 .f32) (ix3 b n h)
      = Finset.univ.sup fun p : Fin 128 × Fin 64 => v (ix5 b n p.1 h p.2) :=
  max_of_fiber _ v _ (fun p : Fin 128 × Fin 64 => ix5 b n p.1 h p.2) (fun _ _ e => Prod.ext (congrFun e 2) (congrFun e 4)) fun i => by
    constructor
    · intro e
      refine ⟨(i 2, i 4), ?_⟩
      funext a; apply Fin.ext
      match a with
      | ⟨0, _⟩ => exact (congrArg Fin.val (congrFun e 0)).symm
      | ⟨1, _⟩ => exact (congrArg Fin.val (congrFun e 1)).symm
      | ⟨2, _⟩ => rfl
      | ⟨3, _⟩ => exact (congrArg Fin.val (congrFun e 2)).symm
      | ⟨4, _⟩ => rfl
    · rintro ⟨k, rfl⟩
      funext a; apply Fin.ext
      match a with
      | ⟨0, _⟩ => rfl
      | ⟨1, _⟩ => rfl
      | ⟨2, _⟩ => rfl

theorem fiber45 (b : Fin 8) (g r : Fin 4) (w : Fin 4096) (i : S8x4x4x4096x32x128.Idx) :
    Gen.reduces_S8x4x4x4096x32x128_S8x4x4x4096.drop i = ix4 b g r w ↔ ∃ p : Fin 32 × Fin 128, ix6 b g r w p.1 p.2 = i := by
  constructor
  · intro e
    refine ⟨(i 4, i 5), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl

theorem max45 (v : FVec Ideal S8x4x4x4096x32x128 .f32) (b : Fin 8) (g r : Fin 4) (w : Fin 4096) :
    (multiReduction .maximumf [4, 5] S8x4x4x4096 v 0xFF800000#32 Gen.reduces_S8x4x4x4096x32x128_S8x4x4x4096 (.inl rfl) rfl : FVec Ideal S8x4x4x4096 .f32) (ix4 b g r w)
      = Finset.univ.sup fun p : Fin 32 × Fin 128 => v (ix6 b g r w p.1 p.2) :=
  max_of_fiber _ v _ (fun p : Fin 32 × Fin 128 => ix6 b g r w p.1 p.2) (fun _ _ e => Prod.ext (congrFun e 4) (congrFun e 5)) (fiber45 b g r w)

theorem sum45 (v : FVec Ideal S8x4x4x4096x32x128 .f32) (b : Fin 8) (g r : Fin 4) (w : Fin 4096) :
    (multiReduction .add [4, 5] S8x4x4x4096 v 0x00000000#32 Gen.reduces_S8x4x4x4096x32x128_S8x4x4x4096 (.inl rfl) rfl : FVec Ideal S8x4x4x4096 .f32) (ix4 b g r w)
      = ∑ n : Fin 32, ∑ j : Fin 128, v (ix6 b g r w n j) := by
  refine (Finset.sum_filter_eq_sum_of_fiber _ (fun p : Fin 32 × Fin 128 => ix6 b g r w p.1 p.2) (fun _ _ e => Prod.ext (congrFun e 4) (congrFun e 5)) (fiber45 b g r w) v).trans ?_
  simp only [Fintype.sum_prod_type]

theorem max5 (v : FVec Ideal S8x4x4x4096x32x128 .f32) (b : Fin 8) (g r : Fin 4) (w : Fin 4096) (n : Fin 32) :
    (multiReduction .maximumf [5] S8x4x4x4096x32 v 0xFF800000#32 Gen.reduces_S8x4x4x4096x32x128_S8x4x4x4096x32 (.inl rfl) rfl : FVec Ideal S8x4x4x4096x32 .f32) (ix5 b g r w n)
      = Finset.univ.sup fun j : Fin 128 => v (ix6 b g r w n j) :=
  max_of_fiber _ v _ (fun j : Fin 128 => ix6 b g r w n j) (fun _ _ e => congrFun e 5) fun i => by
    constructor
    · intro e
      refine ⟨i 5, ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => exact (congrArg Fin.val (congrFun e 3)).symm
      | ⟨4, _⟩ => exact (congrArg Fin.val (congrFun e 4)).symm
      | ⟨5, _⟩ => rfl
    · rintro ⟨k, rfl⟩
      funext a; apply Fin.ext
      match a with
      | ⟨0, _⟩ => rfl
      | ⟨1, _⟩ => rfl
      | ⟨2, _⟩ => rfl
      | ⟨3, _⟩ => rfl
      | ⟨4, _⟩ => rfl

theorem sum4 (v : FVec Ideal S8x4x4x4096x32x64 .f32) (b : Fin 8) (g r : Fin 4) (w : Fin 4096) (d : Fin 64) :
    (multiReduction .add [4] S8x4x4x4096x64 v 0x00000000#32 Gen.reduces_S8x4x4x4096x32x64_S8x4x4x4096x64 (.inl rfl) rfl : FVec Ideal S8x4x4x4096x64 .f32) (ix5 b g r w d)
      = ∑ n : Fin 32, v (ix6 b g r w n d) := by
  refine Finset.sum_filter_eq_sum_of_fiber _ (fun n : Fin 32 => ix6 b g r w n d) (fun _ _ e => congrFun e 4) (fun i => ?_) v
  constructor
  · intro e
    refine ⟨i 4, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
    | ⟨5, _⟩ => exact (congrArg Fin.val (congrFun e 4)).symm
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

end Cert.ReferenceIdeal.Val

end
-- ==== Proof.RefQuant.lean ====
/- The reference's quantisers at an index: codes and scales from the largest magnitude of a group. -/
module

public import proofs.«01_k».proof.Proof.Gen.ReferenceIdeal.Value
public import proofs.«01_k».proof.Proof.RefReduce

@[expose] public section

set_option maxRecDepth 16384

noncomputable section

namespace Cert.ReferenceIdeal.Val

open Idealize.ShloMosaic Cert.ReferenceIdeal

/-- The exponent of a group from its largest magnitude, as the reference computes it. -/
def rexpV {s : Shape} (a : FVec Ideal s .f32) : FVec Ideal s .f32 :=
  select (cmpf .olt a (broadcast s (Scalar.ofBits .f32 0x0D800000#32))) (broadcast s (Scalar.ofBits .f32 0x00000000#32))
    (addf (floor (divf (log (mulf a (broadcast s (Scalar.ofBits .f32 0x3B124925#32)))) (broadcast s (Named.named κ "ln2" (0x3F317218#32 : BitVec (FTy.bits .f32)))))) (broadcast s (Scalar.ofBits .f32 0x3F800000#32)))

theorem rexpV_apply {s : Shape} (a : FVec Ideal s .f32) (i : s.Idx) : rexpV a i = Spec.fexp (a i) := by
  pointwise [rexpV]
  have h : (Named.named κ "ln2" (0x3F317218#32 : BitVec (FTy.bits .f32)) : Ideal .f32) = ((Real.log 2 : ℝ) : EReal) :=
    IdealRules.named_const.ideal_named_scalar _ _ _ _ rfl
  rw [h]
  rfl

/-- The largest magnitude of a head's block of tokens, of sixteen heads. -/
def rtop16 (X : FVec Ideal S8x4096x1024 .bf16) (b : Fin 8) (n : Fin 32) (h : Fin 16) : EReal :=
  Finset.univ.sup fun p : Fin 128 × Fin 64 => Spec.abs (X (ix3 b (⟨128 * n.val + p.1.val, by omega⟩ : Fin 4096) (⟨64 * h.val + p.2.val, by omega⟩ : Fin 1024)))

/-- The same of four heads. -/
def rtop4 (X : FVec Ideal S8x4096x256 .bf16) (b : Fin 8) (n : Fin 32) (h : Fin 4) : EReal :=
  Finset.univ.sup fun p : Fin 128 × Fin 64 => Spec.abs (X (ix3 b (⟨128 * n.val + p.1.val, by omega⟩ : Fin 4096) (⟨64 * h.val + p.2.val, by omega⟩ : Fin 256)))

theorem in0 (X : FVec Ideal S8x4096x1024 .bf16) (b : Fin 8) (n : Fin 32) (j : Fin 128) (h : Fin 16) (d : Fin 64) :
    (Gen.k0_pay1 X : FVec Ideal S8x32x128x16x64 .f32) (ix5 b n j h d) = X (ix3 b (⟨128 * n.val + j.val, by omega⟩ : Fin 4096) (⟨64 * h.val + d.val, by omega⟩ : Fin 1024)) := by
  pointwise [Gen.k0_pay1]
  all_goals exact congrArg X (congr (congrArg (ix3 b) (Fin.ext (by simp only []; omega))) (Fin.ext (by simp only []; omega)))

theorem qexp0 (X : FVec Ideal S8x4096x1024 .bf16) (b : Fin 8) (n : Fin 32) (h : Fin 16) :
    (Gen.k0_pay2 X : FVec Ideal S8x32x1x16x1 .f32) (ix5 b n 0 h 0) = Spec.fexp (rtop16 X b n h) := by
  refine (rexpV_apply _ _).trans (congrArg Spec.fexp ?_)
  have e := max24_16 (absf (Gen.k0_pay1 X)) b n h
  refine Eq.trans ?_ (e.trans ?_)
  · generalize (multiReduction .maximumf [2, 4] S8x32x16 (absf (Gen.k0_pay1 X)) 0xFF800000#32 Gen.reduces_S8x32x128x16x64_S8x32x16 (.inl rfl) rfl : FVec Ideal S8x32x16 .f32) = v
    pointwise []
  · exact congrArg (Finset.sup _) (funext fun p => congrArg Spec.abs (in0 X b n p.1 h p.2))

theorem code_of {x x' e t : EReal} (hx : x = x') (he : e = Spec.fexp t) :
    min Spec.hi (max Spec.lo (x * Ideal.exp2 (0 - e))) = Spec.code x' t := by
  rw [hx, he]
  rfl

theorem scaleV16 (v : FVec Ideal S8x32x1x16x1 .f32) (b : Fin 8) (n : Fin 32) (h : Fin 16) :
    (shapeCast S8x32x16 (exp2 v) Gen.shapeCasts_S8x32x1x16x1_S8x32x16 : FVec Ideal S8x32x16 .f32) (ix3 b n h) = Ideal.exp2 (v (ix5 b n 0 h 0)) := by
  pointwise []
  rfl

theorem codeV16 (x : FVec Ideal S8x32x128x16x64 .f32) (v : FVec Ideal S8x32x1x16x1 .f32) (b : Fin 8) (n : Fin 32) (j : Fin 128) (h : Fin 16) (d : Fin 64) :
    (truncf .fp8e4m3 (minimumf (broadcast S8x32x128x16x64 (Scalar.ofBits .f32 0x43E00000#32)) (maximumf (broadcast S8x32x128x16x64 (Scalar.ofBits .f32 0xC3E00000#32))
      (mulf x (broadcastTo S8x32x128x16x64 (exp2 (subf (broadcast S8x32x1x16x1 (Scalar.ofBits .f32 0x00000000#32)) v)) Gen.broadcasts_S8x32x1x16x1_S8x32x128x16x64)))) Gen.bitsLt_fp8e4m3_f32
        : FVec Ideal S8x32x128x16x64 .fp8e4m3) (ix5 b n j h d)
      = min Spec.hi (max Spec.lo (x (ix5 b n j h d) * Ideal.exp2 (0 - v (ix5 b n 0 h 0)))) := by
  pointwise []
  rfl

theorem scaleV4 (v : FVec Ideal S8x32x1x4x1 .f32) (b : Fin 8) (n : Fin 32) (h : Fin 4) :
    (shapeCast S8x32x4 (exp2 v) Gen.shapeCasts_S8x32x1x4x1_S8x32x4 : FVec Ideal S8x32x4 .f32) (ix3 b n h) = Ideal.exp2 (v (ix5 b n 0 h 0)) := by
  pointwise []
  rfl

theorem codeV4 (x : FVec Ideal S8x32x128x4x64 .f32) (v : FVec Ideal S8x32x1x4x1 .f32) (b : Fin 8) (n : Fin 32) (j : Fin 128) (h : Fin 4) (d : Fin 64) :
    (truncf .fp8e4m3 (minimumf (broadcast S8x32x128x4x64 (Scalar.ofBits .f32 0x43E00000#32)) (maximumf (broadcast S8x32x128x4x64 (Scalar.ofBits .f32 0xC3E00000#32))
      (mulf x (broadcastTo S8x32x128x4x64 (exp2 (subf (broadcast S8x32x1x4x1 (Scalar.ofBits .f32 0x00000000#32)) v)) Gen.broadcasts_S8x32x1x4x1_S8x32x128x4x64)))) Gen.bitsLt_fp8e4m3_f32
        : FVec Ideal S8x32x128x4x64 .fp8e4m3) (ix5 b n j h d)
      = min Spec.hi (max Spec.lo (x (ix5 b n j h d) * Ideal.exp2 (0 - v (ix5 b n 0 h 0)))) := by
  pointwise []
  rfl

theorem code0 (X : FVec Ideal S8x4096x1024 .bf16) (b : Fin 8) (n : Fin 32) (j : Fin 128) (h : Fin 16) (d : Fin 64) :
    (Gen.k0_pay3 X : FVec Ideal S8x32x128x16x64 .fp8e4m3) (ix5 b n j h d)
      = Spec.code (X (ix3 b (⟨128 * n.val + j.val, by omega⟩ : Fin 4096) (⟨64 * h.val + d.val, by omega⟩ : Fin 1024))) (rtop16 X b n h) :=
  (codeV16 (Gen.k0_pay1 X) (Gen.k0_pay2 X) b n j h d).trans (code_of (in0 X b n j h d) (qexp0 X b n h))

theorem scale0 (X : FVec Ideal S8x4096x1024 .bf16) (b : Fin 8) (n : Fin 32) (h : Fin 16) :
    (Gen.k0_pay4 X : FVec Ideal S8x32x16 .f32) (ix3 b n h) = Spec.scale (rtop16 X b n h) :=
  (scaleV16 (Gen.k0_pay2 X) b n h).trans (congrArg Ideal.exp2 (qexp0 X b n h))

/-! The keys. -/

theorem in1 (X : FVec Ideal S8x4096x256 .bf16) (b : Fin 8) (n : Fin 32) (j : Fin 128) (h : Fin 4) (d : Fin 64) :
    (Gen.k0_pay5 X : FVec Ideal S8x32x128x4x64 .f32) (ix5 b n j h d) = X (ix3 b (⟨128 * n.val + j.val, by omega⟩ : Fin 4096) (⟨64 * h.val + d.val, by omega⟩ : Fin 256)) := by
  pointwise [Gen.k0_pay5]
  all_goals exact congrArg X (congr (congrArg (ix3 b) (Fin.ext (by simp only []; omega))) (Fin.ext (by simp only []; omega)))

theorem qexp1 (X : FVec Ideal S8x4096x256 .bf16) (b : Fin 8) (n : Fin 32) (h : Fin 4) :
    (Gen.k0_pay8 (Gen.k0_pay6 X) (Gen.k0_pay7 X) : FVec Ideal S8x32x1x4x1 .f32) (ix5 b n 0 h 0) = Spec.fexp (rtop4 X b n h) := by
  refine (rexpV_apply (Gen.k0_pay6 X) _).trans (congrArg Spec.fexp ?_)
  have e := max24_4 (absf (Gen.k0_pay5 X)) b n h
  refine Eq.trans ?_ (e.trans ?_)
  · unfold Gen.k0_pay6
    generalize (multiReduction .maximumf [2, 4] S8x32x4 (absf (Gen.k0_pay5 X)) 0xFF800000#32 Gen.reduces_S8x32x128x4x64_S8x32x4 (.inl rfl) rfl : FVec Ideal S8x32x4 .f32) = v
    pointwise []
  · exact congrArg (Finset.sup _) (funext fun p => congrArg Spec.abs (in1 X b n p.1 h p.2))

theorem code1 (X : FVec Ideal S8x4096x256 .bf16) (b : Fin 8) (n : Fin 32) (j : Fin 128) (h : Fin 4) (d : Fin 64) :
    (Gen.k0_pay9 (Gen.k0_pay5 X) (Gen.k0_pay6 X) (Gen.k0_pay7 X) : FVec Ideal S8x32x128x4x64 .fp8e4m3) (ix5 b n j h d)
      = Spec.code (X (ix3 b (⟨128 * n.val + j.val, by omega⟩ : Fin 4096) (⟨64 * h.val + d.val, by omega⟩ : Fin 256))) (rtop4 X b n h) :=
  (codeV4 (Gen.k0_pay5 X) (Gen.k0_pay8 (Gen.k0_pay6 X) (Gen.k0_pay7 X)) b n j h d).trans
    (code_of (in1 X b n j h d) (qexp1 X b n h))

theorem scale1 (X : FVec Ideal S8x4096x256 .bf16) (b : Fin 8) (n : Fin 32) (h : Fin 4) :
    (Gen.k0_pay10 (Gen.k0_pay6 X) (Gen.k0_pay7 X) : FVec Ideal S8x32x4 .f32) (ix3 b n h) = Spec.scale (rtop4 X b n h) :=
  (scaleV4 (Gen.k0_pay8 (Gen.k0_pay6 X) (Gen.k0_pay7 X)) b n h).trans (congrArg Ideal.exp2 (qexp1 X b n h))

/-! The values. -/

theorem in2 (X : FVec Ideal S8x4096x256 .bf16) (b : Fin 8) (n : Fin 32) (j : Fin 128) (h : Fin 4) (d : Fin 64) :
    (Gen.k0_pay11 X : FVec Ideal S8x32x128x4x64 .f32) (ix5 b n j h d) = X (ix3 b (⟨128 * n.val + j.val, by omega⟩ : Fin 4096) (⟨64 * h.val + d.val, by omega⟩ : Fin 256)) :=
  in1 X b n j h d

theorem qexp2 (X : FVec Ideal S8x4096x256 .bf16) (b : Fin 8) (n : Fin 32) (h : Fin 4) :
    (Gen.k0_pay12 X : FVec Ideal S8x32x1x4x1 .f32) (ix5 b n 0 h 0) = Spec.fexp (rtop4 X b n h) := qexp1 X b n h

theorem code2 (X : FVec Ideal S8x4096x256 .bf16) (b : Fin 8) (n : Fin 32) (j : Fin 128) (h : Fin 4) (d : Fin 64) :
    (Gen.k0_pay15 (Gen.k0_pay14 X) (Scalar.ofBits .f32 0xC3E00000#32) (Scalar.ofBits .f32 0x43E00000#32) : FVec Ideal S8x32x128x4x64 .fp8e4m3) (ix5 b n j h d)
      = Spec.code (X (ix3 b (⟨128 * n.val + j.val, by omega⟩ : Fin 4096) (⟨64 * h.val + d.val, by omega⟩ : Fin 256))) (rtop4 X b n h) := code1 X b n j h d

theorem scale2 (X : FVec Ideal S8x4096x256 .bf16) (b : Fin 8) (n : Fin 32) (h : Fin 4) :
    (Gen.k0_pay16 (Gen.k0_pay13 X) : FVec Ideal S8x32x4 .f32) (ix3 b n h) = Spec.scale (rtop4 X b n h) := scale1 X b n h

/-! The six arrays. -/

variable (a0 : Vec Ideal S8x4096x1024 .bf16) (a1 a2 : Vec Ideal S8x4096x256 .bf16)

theorem ld0 : (View.ld a0 Gen.r0_0 : Vec Ideal S8x4096x1024 .bf16) = a0 := View.ld_unit_zero (by decide) _ a0
theorem ld1 (a : Vec Ideal S8x4096x256 .bf16) : (View.ld a Gen.r0_1 : Vec Ideal S8x4096x256 .bf16) = a := View.ld_unit_zero (by decide) _ a

theorem pay27 : Gen.k0_pay27 a0 a1 a2 = Gen.k0_pay3 (F := Ideal) a0 := congrArg Gen.k0_pay3 (ld0 a0)
theorem pay28 : Gen.k0_pay28 a0 a1 a2 = Gen.k0_pay4 (F := Ideal) a0 := congrArg Gen.k0_pay4 (ld0 a0)
theorem pay31 : Gen.k0_pay31 a0 a1 a2 = Gen.k0_pay9 (F := Ideal) (Gen.k0_pay5 a1) (Gen.k0_pay6 a1) (Gen.k0_pay7 a1) :=
  congrArg (fun v => Gen.k0_pay9 (F := Ideal) (Gen.k0_pay5 v) (Gen.k0_pay6 v) (Gen.k0_pay7 v)) (ld1 a1)
theorem pay32 : Gen.k0_pay32 a0 a1 a2 = Gen.k0_pay10 (F := Ideal) (Gen.k0_pay6 a1) (Gen.k0_pay7 a1) :=
  congrArg (fun v => Gen.k0_pay10 (F := Ideal) (Gen.k0_pay6 v) (Gen.k0_pay7 v)) (ld1 a1)
theorem pay33 : Gen.k0_pay33 a0 a1 a2 = Gen.k0_pay13 (F := Ideal) a2 := congrArg Gen.k0_pay13 (ld1 a2)
theorem pay34 : Gen.k0_pay34 a0 a1 a2 = Gen.k0_pay15 (F := Ideal) (Gen.k0_pay14 a2) (Scalar.ofBits .f32 0xC3E00000#32) (Scalar.ofBits .f32 0x43E00000#32) :=
  congrArg (fun v => Gen.k0_pay15 (F := Ideal) (Gen.k0_pay14 v) (Scalar.ofBits .f32 0xC3E00000#32) (Scalar.ofBits .f32 0x43E00000#32)) (ld1 a2)

end Cert.ReferenceIdeal.Val

end
-- ==== Proof.RefRow.lean ====
/- One row of the attention, from its scores, their factors, the values and the values' scales: as the reference states it. -/
module

public import proofs.«01_k».proof.Proof.AttnRow

@[expose] public section

noncomputable section

namespace Cert.Spec

open Idealize.ShloMosaic

/-- The row's largest scaled score. -/
def rmaxP (s : Fin 4096 → EReal) (cf : Fin 32 → EReal) : EReal :=
  Finset.univ.sup fun p : Fin 32 × Fin 128 => s (key p.1 p.2) * cf p.1

/-- A probability before the division. -/
def probP (s : Fin 4096 → EReal) (cf : Fin 32 → EReal) (n : Fin 32) (j : Fin 128) : EReal :=
  Ideal.exp (s (key n j) * cf n - rmaxP s cf)

/-- A block's largest probability before the division. -/
def ptopP (s : Fin 4096 → EReal) (cf : Fin 32 → EReal) (n : Fin 32) : EReal :=
  Finset.univ.sup fun j : Fin 128 => abs (probP s cf n j)

/-- The row's output in one channel. -/
def attnP (s : Fin 4096 → EReal) (cf : Fin 32 → EReal) (v : Fin 4096 → EReal) (vs : Fin 32 → EReal) : EReal :=
  Ideal.div (∑ n : Fin 32, (∑ j : Fin 128, v (key n j) * code (probP s cf n j) (ptopP s cf n)) * (scale (ptopP s cf n) * vs n))
    (∑ n : Fin 32, ∑ j : Fin 128, probP s cf n j)

end Cert.Spec

end
-- ==== Proof.RefAttn.lean ====
/- The reference's attention at an index, on any codes and scales: one row of the plain formula. -/
module

public import proofs.«01_k».proof.Proof.RefReduce
public import proofs.«01_k».proof.Proof.RefQuant
public import proofs.«01_k».proof.Proof.RefRow

@[expose] public section

set_option maxRecDepth 16384

noncomputable section

namespace Cert.ReferenceIdeal.Val

open Idealize.ShloMosaic Cert.ReferenceIdeal

variable (b : Fin 8) (g r : Fin 4) (w : Fin 4096)

/-- The query codes by head and place. -/
theorem queryV (q : FVec Ideal S8x32x128x16x64 .fp8e4m3) (d : Fin 64) :
    (shapeCast S8x4096x4x4x64 q Gen.shapeCasts_S8x32x128x16x64_S8x4096x4x4x64 : FVec Ideal S8x4096x4x4x64 .fp8e4m3) (ix5 b w g r d)
      = q (ix5 b ⟨w.val / 128, by omega⟩ ⟨w.val % 128, by omega⟩ ⟨g.val * 4 + r.val, by omega⟩ d) := by
  pointwise []

theorem scoreV (k : FVec Ideal S8x32x128x4x64 .fp8e4m3) (q : FVec Ideal S8x4096x4x4x64 .fp8e4m3) (n : Fin 32) (j : Fin 128) :
    (transpose S8x4x4x4096x32x128 [0, 1, 5, 4, 2, 3]
      (matmul dot_S8x32x128x4x64_S8x4096x4x4x64_S8x4x32x128x4096x4_4_4_12_13_03_02 none k q (constant S8x4x32x128x4096x4 .f32 0x00000000#32) : FVec Ideal S8x4x32x128x4096x4 .f32)
      Gen.transposes_S8x4x32x128x4096x4_p0_1_5_4_2_3_S8x4x4x4096x32x128 : FVec Ideal S8x4x4x4096x32x128 .f32) (ix6 b g r w n j)
      = ∑ d : Fin 64, (k (ix5 b n j g d) : EReal) * q (ix5 b w g r d) := by
  pointwise []

theorem qscaleV (s : FVec Ideal S8x32x16 .f32) :
    (shapeCast S8x4x4x4096x1x1 (transpose S8x4x4x4096 [0, 2, 3, 1]
      (shapeCast S8x4096x4x4 (broadcastTo S8x32x128x4x4 (shapeCast S8x32x1x4x4 (shapeCast S8x32x1x4x4 s Gen.shapeCasts_S8x32x16_S8x32x1x4x4)
        Gen.shapeCasts_S8x32x1x4x4_S8x32x1x4x4) Gen.broadcasts_S8x32x1x4x4_S8x32x128x4x4) Gen.shapeCasts_S8x32x128x4x4_S8x4096x4x4)
      Gen.transposes_S8x4096x4x4_p0_2_3_1_S8x4x4x4096) Gen.shapeCasts_S8x4x4x4096_S8x4x4x4096x1x1 : FVec Ideal S8x4x4x4096x1x1 .f32) (ix6 b g r w 0 0)
      = s (ix3 b ⟨w.val / 128, by omega⟩ ⟨g.val * 4 + r.val, by omega⟩) := by
  pointwise []

theorem kscaleV (s : FVec Ideal S8x32x4 .f32) (n : Fin 32) :
    (shapeCast S8x4x1x1x32x1 (transpose S8x4x32 [0, 2, 1] s Gen.transposes_S8x32x4_p0_2_1_S8x4x32) Gen.shapeCasts_S8x4x32_S8x4x1x1x32x1
      : FVec Ideal S8x4x1x1x32x1 .f32) (ix6 b g 0 0 n 0) = s (ix3 b n g) := by
  pointwise []

theorem valueV (v : FVec Ideal S8x32x128x4x64 .fp8e4m3) (p : FVec Ideal S8x4x4x4096x32x128 .fp8e4m3) (n : Fin 32) (d : Fin 64) :
    (transpose S8x4x4x4096x32x64 [0, 1, 4, 5, 2, 3]
      (matmul dot_S8x32x128x4x64_S8x4x4x4096x32x128_S8x4x32x64x4x4096_2_5_4_23_031_014 none v p (constant S8x4x32x64x4x4096 .f32 0x00000000#32) : FVec Ideal S8x4x32x64x4x4096 .f32)
      Gen.transposes_S8x4x32x64x4x4096_p0_1_4_5_2_3_S8x4x4x4096x32x64 : FVec Ideal S8x4x4x4096x32x64 .f32) (ix6 b g r w n d)
      = ∑ j : Fin 128, (v (ix5 b n j g d) : EReal) * p (ix6 b g r w n j) := by
  pointwise []

theorem scaledV (x : FVec Ideal S8x4x4x4096x32x128 .f32) (a : FVec Ideal S8x4x4x4096x1x1 .f32) (c : FVec Ideal S8x4x1x1x32x1 .f32) (n : Fin 32) (j : Fin 128) :
    (mulf x (broadcastTo S8x4x4x4096x32x128 (mulf (mulf (broadcastTo S8x4x4x4096x32x1 a Gen.broadcasts_S8x4x4x4096x1x1_S8x4x4x4096x32x1)
      (broadcastTo S8x4x4x4096x32x1 c Gen.broadcasts_S8x4x1x1x32x1_S8x4x4x4096x32x1)) (broadcast S8x4x4x4096x32x1 (Scalar.ofBits .f32 0x3E000000#32)))
      Gen.broadcasts_S8x4x4x4096x32x1_S8x4x4x4096x32x128) : FVec Ideal S8x4x4x4096x32x128 .f32) (ix6 b g r w n j)
      = x (ix6 b g r w n j) * ((a (ix6 b g r w 0 0) * c (ix6 b g 0 0 n 0)) * Ideal.ofBits .f32 0x3E000000#32) := by
  pointwise []
  all_goals rfl

theorem expV (x : FVec Ideal S8x4x4x4096x32x128 .f32) (m : FVec Ideal S8x4x4x4096 .f32) (n : Fin 32) (j : Fin 128) :
    (exp (subf x (broadcastTo S8x4x4x4096x32x128 (shapeCast S8x4x4x4096x1x1 m Gen.shapeCasts_S8x4x4x4096_S8x4x4x4096x1x1)
      Gen.broadcasts_S8x4x4x4096x1x1_S8x4x4x4096x32x128)) : FVec Ideal S8x4x4x4096x32x128 .f32) (ix6 b g r w n j)
      = Ideal.exp (x (ix6 b g r w n j) - m (ix4 b g r w)) := by
  pointwise []
  all_goals rfl

theorem topV (m : FVec Ideal S8x4x4x4096x32 .f32) (n : Fin 32) :
    (shapeCast S8x4x4x4096x32x1 m Gen.shapeCasts_S8x4x4x4096x32_S8x4x4x4096x32x1 : FVec Ideal S8x4x4x4096x32x1 .f32) (ix6 b g r w n 0) = m (ix5 b g r w n) := by
  pointwise []

theorem absV (x : FVec Ideal S8x4x4x4096x32x128 .f32) (n : Fin 32) (j : Fin 128) :
    (absf x : FVec Ideal S8x4x4x4096x32x128 .f32) (ix6 b g r w n j) = Spec.abs (x (ix6 b g r w n j)) := by
  pointwise []
  all_goals rfl

theorem exp2V (x : FVec Ideal S8x4x4x4096x32x1 .f32) (n : Fin 32) :
    (exp2 x : FVec Ideal S8x4x4x4096x32x1 .f32) (ix6 b g r w n 0) = Ideal.exp2 (x (ix6 b g r w n 0)) := by
  pointwise []
  all_goals rfl

theorem pcodeV (x : FVec Ideal S8x4x4x4096x32x128 .f32) (e : FVec Ideal S8x4x4x4096x32x1 .f32) (n : Fin 32) (j : Fin 128) :
    (truncf .fp8e4m3 (minimumf (broadcast S8x4x4x4096x32x128 (Scalar.ofBits .f32 0x43E00000#32)) (maximumf (broadcast S8x4x4x4096x32x128 (Scalar.ofBits .f32 0xC3E00000#32))
      (mulf x (broadcastTo S8x4x4x4096x32x128 (exp2 (subf (broadcast S8x4x4x4096x32x1 (Scalar.ofBits .f32 0x00000000#32)) e))
        Gen.broadcasts_S8x4x4x4096x32x1_S8x4x4x4096x32x128)))) Gen.bitsLt_fp8e4m3_f32 : FVec Ideal S8x4x4x4096x32x128 .fp8e4m3) (ix6 b g r w n j)
      = min Spec.hi (max Spec.lo (x (ix6 b g r w n j) * Ideal.exp2 (0 - e (ix6 b g r w n 0)))) := by
  pointwise []
  all_goals rfl

theorem termV (x : FVec Ideal S8x4x4x4096x32x64 .f32) (e : FVec Ideal S8x4x4x4096x32x1 .f32) (c : FVec Ideal S8x4x1x1x32x1 .f32) (n : Fin 32) (d : Fin 64) :
    (mulf x (broadcastTo S8x4x4x4096x32x64 (mulf e (broadcastTo S8x4x4x4096x32x1 c Gen.broadcasts_S8x4x1x1x32x1_S8x4x4x4096x32x1))
      Gen.broadcasts_S8x4x4x4096x32x1_S8x4x4x4096x32x64) : FVec Ideal S8x4x4x4096x32x64 .f32) (ix6 b g r w n d)
      = x (ix6 b g r w n d) * (e (ix6 b g r w n 0) * c (ix6 b g 0 0 n 0)) := by
  pointwise []

theorem outV (o : FVec Ideal S8x4x4x4096x64 .f32) (l : FVec Ideal S8x4x4x4096 .f32) (u : Fin 1024) :
    (truncf .bf16 (shapeCast S8x4096x1024 (transpose S8x4096x4x4x64 [0, 3, 1, 2, 4]
      (divf o (broadcastTo S8x4x4x4096x64 (shapeCast S8x4x4x4096x1 l Gen.shapeCasts_S8x4x4x4096_S8x4x4x4096x1) Gen.broadcasts_S8x4x4x4096x1_S8x4x4x4096x64))
      Gen.transposes_S8x4x4x4096x64_p0_3_1_2_4_S8x4096x4x4x64) Gen.shapeCasts_S8x4096x4x4x64_S8x4096x1024) Gen.bitsLt_bf16_f32 : FVec Ideal S8x4096x1024 .bf16) (ix3 b w u)
      = Ideal.div (o (ix5 b ⟨u.val / 256, by omega⟩ ⟨u.val / 64 % 4, by omega⟩ w ⟨u.val % 64, by omega⟩))
        (l (ix4 b ⟨u.val / 256, by omega⟩ ⟨u.val / 64 % 4, by omega⟩ w)) := by
  pointwise []

theorem cast0V (q : FVec Ideal S8x32x128x16x64 .fp8e4m3) (u : Fin 1024) :
    (shapeCast S8x4096x1024 q Gen.shapeCasts_S8x32x128x16x64_S8x4096x1024 : FVec Ideal S8x4096x1024 .fp8e4m3) (ix3 b w u)
      = q (ix5 b ⟨w.val / 128, by omega⟩ ⟨w.val % 128, by omega⟩ ⟨u.val / 64, by omega⟩ ⟨u.val % 64, by omega⟩) := by
  pointwise []

theorem cast1V (q : FVec Ideal S8x32x128x4x64 .fp8e4m3) (u : Fin 256) :
    (shapeCast S8x4096x256 q Gen.shapeCasts_S8x32x128x4x64_S8x4096x256 : FVec Ideal S8x4096x256 .fp8e4m3) (ix3 b w u)
      = q (ix5 b ⟨w.val / 128, by omega⟩ ⟨w.val % 128, by omega⟩ ⟨u.val / 64, by omega⟩ ⟨u.val % 64, by omega⟩) := by
  pointwise []

/-! The row. -/

section
variable (q : FVec Ideal S8x32x128x16x64 .fp8e4m3) (sq : FVec Ideal S8x32x16 .f32) (k : FVec Ideal S8x32x128x4x64 .fp8e4m3) (sk : FVec Ideal S8x32x4 .f32)
  (s : Fin 4096 → EReal) (cf : Fin 32 → EReal)
  (hs : ∀ n j, (∑ d : Fin 64, (k (ix5 b n j g d) : EReal) * q (ix5 b ⟨w.val / 128, by omega⟩ ⟨w.val % 128, by omega⟩ ⟨g.val * 4 + r.val, by omega⟩ d)) = s (Spec.key n j))
  (hc : ∀ n, (sq (ix3 b ⟨w.val / 128, by omega⟩ ⟨g.val * 4 + r.val, by omega⟩) * sk (ix3 b n g)) * Ideal.ofBits .f32 0x3E000000#32 = cf n)

/-- The scaled scores. -/
def scaled : FVec Ideal S8x4x4x4096x32x128 .f32 :=
  mulf (transpose S8x4x4x4096x32x128 [0, 1, 5, 4, 2, 3]
      (matmul dot_S8x32x128x4x64_S8x4096x4x4x64_S8x4x32x128x4096x4_4_4_12_13_03_02 none k (shapeCast S8x4096x4x4x64 q Gen.shapeCasts_S8x32x128x16x64_S8x4096x4x4x64)
        (constant S8x4x32x128x4096x4 .f32 0x00000000#32) : FVec Ideal S8x4x32x128x4096x4 .f32)
      Gen.transposes_S8x4x32x128x4096x4_p0_1_5_4_2_3_S8x4x4x4096x32x128)
    (broadcastTo S8x4x4x4096x32x128 (mulf (mulf (broadcastTo S8x4x4x4096x32x1
        (shapeCast S8x4x4x4096x1x1 (transpose S8x4x4x4096 [0, 2, 3, 1]
          (shapeCast S8x4096x4x4 (broadcastTo S8x32x128x4x4 (shapeCast S8x32x1x4x4 (shapeCast S8x32x1x4x4 sq Gen.shapeCasts_S8x32x16_S8x32x1x4x4)
            Gen.shapeCasts_S8x32x1x4x4_S8x32x1x4x4) Gen.broadcasts_S8x32x1x4x4_S8x32x128x4x4) Gen.shapeCasts_S8x32x128x4x4_S8x4096x4x4)
          Gen.transposes_S8x4096x4x4_p0_2_3_1_S8x4x4x4096) Gen.shapeCasts_S8x4x4x4096_S8x4x4x4096x1x1)
        Gen.broadcasts_S8x4x4x4096x1x1_S8x4x4x4096x32x1)
      (broadcastTo S8x4x4x4096x32x1 (shapeCast S8x4x1x1x32x1 (transpose S8x4x32 [0, 2, 1] sk Gen.transposes_S8x32x4_p0_2_1_S8x4x32) Gen.shapeCasts_S8x4x32_S8x4x1x1x32x1)
        Gen.broadcasts_S8x4x1x1x32x1_S8x4x4x4096x32x1)) (broadcast S8x4x4x4096x32x1 (Scalar.ofBits .f32 0x3E000000#32)))
      Gen.broadcasts_S8x4x4x4096x32x1_S8x4x4x4096x32x128)

include hs hc in
theorem scaled_apply (n : Fin 32) (j : Fin 128) : scaled q sq k sk (ix6 b g r w n j) = s (Spec.key n j) * cf n := by
  refine (scaledV b g r w _ _ _ n j).trans (congrArg₂ (fun a b : EReal => a * b) ?_ ?_)
  · refine (scoreV b g r w k _ n j).trans (Eq.trans ?_ (hs n j))
    exact Finset.sum_congr rfl fun d _ => congrArg (_ * ·) (queryV b g r w q d)
  · exact (congrArg (fun a : EReal => a * Ideal.ofBits .f32 0x3E000000#32) (congrArg₂ (fun a b : EReal => a * b) (qscaleV b g r w sq) (kscaleV b g sk n))).trans (hc n)

theorem pay18_scaled : Gen.k0_pay18 q sq k sk = exp (subf (scaled q sq k sk) (broadcastTo S8x4x4x4096x32x128
    (shapeCast S8x4x4x4096x1x1 (multiReduction .maximumf [4, 5] S8x4x4x4096 (scaled q sq k sk) 0xFF800000#32 Gen.reduces_S8x4x4x4096x32x128_S8x4x4x4096 (.inl rfl) rfl) Gen.shapeCasts_S8x4x4x4096_S8x4x4x4096x1x1)
      Gen.broadcasts_S8x4x4x4096x1x1_S8x4x4x4096x32x128)) := rfl

include hs hc in
theorem pay18_apply (n : Fin 32) (j : Fin 128) : Gen.k0_pay18 q sq k sk (ix6 b g r w n j) = Spec.probP s cf n j := by
  refine (congrFun (pay18_scaled q sq k sk) _).trans ((expV b g r w _ _ n j).trans (congrArg Ideal.exp ?_))
  refine congrArg₂ (fun a b : EReal => a - b) (scaled_apply b g r w q sq k sk s cf hs hc n j) ((max45 _ b g r w).trans ?_)
  exact congrArg (Finset.univ.sup ·) (funext fun p => scaled_apply b g r w q sq k sk s cf hs hc p.1 p.2)

include hs hc in
theorem pay19_apply : Gen.k0_pay19 q sq k sk (ix4 b g r w) = ∑ n : Fin 32, ∑ j : Fin 128, Spec.probP s cf n j :=
  (sum45 (Gen.k0_pay18 q sq k sk) b g r w).trans
    (Finset.sum_congr rfl fun n _ => Finset.sum_congr rfl fun j _ => pay18_apply b g r w q sq k sk s cf hs hc n j)

include hs hc in
theorem pay20_apply (n : Fin 32) : Gen.k0_pay20 q sq k sk (ix6 b g r w n 0) = Spec.fexp (Spec.ptopP s cf n) := by
  refine (rexpV_apply (shapeCast S8x4x4x4096x32x1 (multiReduction .maximumf [5] S8x4x4x4096x32 (absf (Gen.k0_pay18 q sq k sk)) 0xFF800000#32
    Gen.reduces_S8x4x4x4096x32x128_S8x4x4x4096x32 (.inl rfl) rfl) Gen.shapeCasts_S8x4x4x4096x32_S8x4x4x4096x32x1) _).trans (congrArg Spec.fexp ?_)
  refine (topV b g r w _ n).trans ((max5 _ b g r w n).trans ?_)
  exact congrArg (Finset.univ.sup ·) (funext fun j => (absV b g r w _ n j).trans (congrArg Spec.abs (pay18_apply b g r w q sq k sk s cf hs hc n j)))

end

/-- The last steps, on any codes, scales, probabilities, sums and exponents. -/
theorem pay23_apply (v : FVec Ideal S8x32x128x4x64 .fp8e4m3) (vsc : FVec Ideal S8x4x1x1x32x1 .f32) (p : FVec Ideal S8x4x4x4096x32x128 .f32)
    (l : FVec Ideal S8x4x4x4096 .f32) (e ps : FVec Ideal S8x4x4x4096x32x1 .f32) (u : Fin 1024) (hg : g.val = u.val / 256) (hr : r.val = u.val / 64 % 4) :
    (Gen.k0_pay23 v vsc p l e ps Gen.k0_pay22 : FVec Ideal S8x4096x1024 .bf16) (ix3 b w u)
      = Ideal.div (∑ n : Fin 32, (∑ j : Fin 128, (v (ix5 b n j g ⟨u.val % 64, by omega⟩) : EReal)
          * min Spec.hi (max Spec.lo (p (ix6 b g r w n j) * Ideal.exp2 (0 - e (ix6 b g r w n 0))))) * (ps (ix6 b g r w n 0) * vsc (ix6 b g 0 0 n 0)))
        (l (ix4 b g r w)) := by
  have hg' : (⟨u.val / 256, by omega⟩ : Fin 4) = g := Fin.ext hg.symm
  have hr' : (⟨u.val / 64 % 4, by omega⟩ : Fin 4) = r := Fin.ext hr.symm
  refine (outV b w _ l u).trans ?_
  rw [hg', hr']
  refine congrArg (Ideal.div · _) ((sum4 _ b g r w _).trans (Finset.sum_congr rfl fun n _ => (termV b g r w _ ps vsc n _).trans (congrArg (· * _) ?_)))
  exact (valueV b g r w v _ n _).trans (Finset.sum_congr rfl fun j _ => congrArg (_ * ·) (pcodeV b g r w p e n j))

end Cert.ReferenceIdeal.Val

end
-- ==== Proof.AttnMath.lean ====
/- The kernel's row of the attention is the reference's, wherever the scores are real and their factors real and not negative. -/
module

public import proofs.«01_k».proof.Proof.RefRow

@[expose] public section

noncomputable section

namespace Cert.Spec

open Idealize.ShloMosaic

/-- Where a supremum of reals over a finite nonempty listing is attained. -/
theorem sup_attained {κ : Type} [Fintype κ] [Nonempty κ] (f : κ → ℝ) :
    ∃ k, (Finset.univ.sup fun i => ((f i : ℝ) : EReal)) = ((f k : ℝ) : EReal) ∧ ∀ i, f i ≤ f k := by
  obtain ⟨k, -, hk⟩ := Finset.exists_mem_eq_sup Finset.univ Finset.univ_nonempty fun i => ((f i : ℝ) : EReal)
  refine ⟨k, hk, fun i => ?_⟩
  have := Finset.le_sup (f := fun i => ((f i : ℝ) : EReal)) (Finset.mem_univ i)
  rw [hk] at this
  exact EReal.coe_le_coe_iff.mp this

/-- A supremum of reals whose greatest is known. -/
theorem sup_eq_of_max {κ : Type} [Fintype κ] (f : κ → ℝ) (k : κ) (h : ∀ i, f i ≤ f k) :
    (Finset.univ.sup fun i => ((f i : ℝ) : EReal)) = ((f k : ℝ) : EReal) :=
  le_antisymm (Finset.sup_le fun i _ => EReal.coe_le_coe_iff.mpr (h i)) (Finset.le_sup (f := fun i => ((f i : ℝ) : EReal)) (Finset.mem_univ k))

theorem abs_coe (x : ℝ) (h : 0 ≤ x) : abs (x : EReal) = (x : EReal) := by
  show max (x : EReal) (-(x : EReal)) = _
  rw [← EReal.coe_neg, max_eq_left (EReal.coe_le_coe_iff.mpr (by linarith))]

theorem sum_coe {κ : Type} (t : Finset κ) (f : κ → ℝ) : (∑ i ∈ t, ((f i : ℝ) : EReal)) = ((∑ i ∈ t, f i : ℝ) : EReal) := by
  induction t using Finset.cons_induction with
  | empty => simp
  | cons a t h ih => rw [Finset.sum_cons, Finset.sum_cons, ih, EReal.coe_add]

/-- The 128 keys of a block, taken by their remainder modulo eight. -/
theorem sum_by_eights (f : Fin 128 → ℝ) : (∑ r : Fin 8, ∑ u : Fin 16, f ⟨8 * u.val + r.val, by omega⟩) = ∑ j, f j := by
  rw [Finset.sum_comm, ← Fintype.sum_prod_type' (fun (u : Fin 16) (r : Fin 8) => f ⟨8 * u.val + r.val, by omega⟩)]
  refine Fintype.sum_equiv (finProdFinEquiv (m := 16) (n := 8)) _ _ fun p => ?_
  refine congrArg f (Fin.ext ?_)
  simp [finProdFinEquiv, add_comm]

/-- A probability divided by its block's power of two, as the kernel's one power of two. -/
theorem exp2_shift (a m : ℝ) (z : ℤ) :
    (2 : ℝ) ^ (a * (Real.log 2)⁻¹ - (m * (Real.log 2)⁻¹ + (z : ℝ))) = Real.exp (a - m) * (2 : ℝ) ^ (-z) := by
  have h2 : (0 : ℝ) < 2 := by norm_num
  have hl : Real.log 2 ≠ 0 := (Real.log_pos (by norm_num)).ne'
  rw [show a * (Real.log 2)⁻¹ - (m * (Real.log 2)⁻¹ + (z : ℝ)) = (a - m) * (Real.log 2)⁻¹ + ((-z : ℤ) : ℝ) by push_cast; ring,
    Real.rpow_add h2, Real.rpow_intCast, Real.rpow_def_of_pos h2]
  congr 2
  field_simp

section
variable (σ : Fin 4096 → ℝ) (c : Fin 32 → ℝ) (hc : ∀ n, 0 ≤ c n)

include hc in
/-- All that the two rows share: the largest score, each block's largest probability and its exponent. -/
theorem row_data : ∃ (μ : ℝ) (t : Fin 32 → ℝ) (z : Fin 32 → ℤ),
    rmaxR (fun k => (σ k : EReal)) (fun n => (c n : EReal)) = (μ : EReal) ∧ rmaxP (fun k => (σ k : EReal)) (fun n => (c n : EReal)) = (μ : EReal) ∧
    (∀ n, ptopR (fun k => (σ k : EReal)) (fun n => (c n : EReal)) n = (t n : EReal)) ∧
    (∀ n, ptopP (fun k => (σ k : EReal)) (fun n => (c n : EReal)) n = (t n : EReal)) ∧
    (∀ n, Small (t n : EReal) ∧ fexp (t n : EReal) = ((z n : ℝ) : EReal) ∧ scale (t n : EReal) = (((2 : ℝ) ^ z n : ℝ) : EReal) ∧
      inv (t n : EReal) = (((2 : ℝ) ^ (-z n) : ℝ) : EReal)) := by
  have hM := fun n : Fin 32 => sup_attained fun j : Fin 128 => σ (key n j)
  choose M hM1 hM2 using hM
  obtain ⟨N, hN1, hN2⟩ := sup_attained fun n : Fin 32 => σ (key n (M n)) * c n
  have hle : ∀ n j, σ (key n j) * c n ≤ σ (key N (M N)) * c N := fun n j =>
    (mul_le_mul_of_nonneg_right (hM2 n j) (hc n)).trans (hN2 n)
  have hR : rmaxR (fun k => (σ k : EReal)) (fun n => (c n : EReal)) = ((σ (key N (M N)) * c N : ℝ) : EReal) := by
    refine Eq.trans ?_ hN1
    refine congrArg (Finset.univ.sup ·) (funext fun n => ?_)
    rw [EReal.coe_mul, ← hM1 n]
    rfl
  have hP : rmaxP (fun k => (σ k : EReal)) (fun n => (c n : EReal)) = ((σ (key N (M N)) * c N : ℝ) : EReal) := by
    refine Eq.trans ?_ (sup_eq_of_max (fun p : Fin 32 × Fin 128 => σ (key p.1 p.2) * c p.1) (N, M N) fun p => hle p.1 p.2)
    exact congrArg (Finset.univ.sup ·) (funext fun p => (EReal.coe_mul _ _).symm)
  have hs : ∀ n, Small ((Real.exp (σ (key n (M n)) * c n - σ (key N (M N)) * c N) : ℝ) : EReal) := fun n => by
    refine EReal.coe_lt_coe_iff.mpr (lt_of_le_of_lt (Real.exp_le_one_iff.mpr (by linarith [hle n (M n)])) (by norm_num))
  choose z hz using fun n => fexp_cases _ (hs n)
  refine ⟨_, _, z, hR, hP, fun n => ?_, fun n => ?_, fun n => ⟨hs n, hz n⟩⟩
  · have hsm : smaxR (fun k => (σ k : EReal)) n = (σ (key n (M n)) : EReal) := hM1 n
    rw [ptopR, hR, hsm, ← EReal.coe_mul, ← EReal.coe_sub, Ideal.exp_coe]
  · refine Eq.trans ?_ (sup_eq_of_max (fun j : Fin 128 => Real.exp (σ (key n j) * c n - σ (key N (M N)) * c N)) (M n) fun j =>
      Real.exp_le_exp.mpr (sub_le_sub_right (mul_le_mul_of_nonneg_right (hM2 n j) (hc n)) _))
    refine congrArg (Finset.univ.sup ·) (funext fun j => ?_)
    rw [probP, hP, ← EReal.coe_mul, ← EReal.coe_sub, Ideal.exp_coe, abs_coe _ (Real.exp_pos _).le]

include hc in
/-- The two rows agree. -/
theorem attn_real (v : Fin 4096 → EReal) (vs : Fin 32 → EReal) :
    attnR (fun k => (σ k : EReal)) (fun n => (c n : EReal)) v vs = attnP (fun k => (σ k : EReal)) (fun n => (c n : EReal)) v vs := by
  obtain ⟨μ, t, z, hR, hP, htR, htP, ht⟩ := row_data σ c hc
  have hp : ∀ n j, probP (fun k => (σ k : EReal)) (fun n => (c n : EReal)) n j = ((Real.exp (σ (key n j) * c n - μ) : ℝ) : EReal) := fun n j => by
    rw [probP, hP, ← EReal.coe_mul, ← EReal.coe_sub, Ideal.exp_coe]
  have hr : ∀ n j, probR (fun k => (σ k : EReal)) (fun n => (c n : EReal)) n j = ((Real.exp (σ (key n j) * c n - μ) * (2 : ℝ) ^ (-z n) : ℝ) : EReal) := fun n j => by
    obtain ⟨h1, h2, -, -⟩ := ht n
    rw [probR, hR, htR, sitofp_kexp _ h1, h2, ← EReal.coe_mul, ← EReal.coe_mul, ← EReal.coe_mul, ← EReal.coe_add, ← EReal.coe_sub,
      Ideal.exp2_coe, ← mul_assoc]
    exact congrArg (fun x : ℝ => (x : EReal)) (exp2_shift _ _ _)
  have hpow : ∀ n, pow2 (kexp (ptopR (fun k => (σ k : EReal)) (fun n => (c n : EReal)) n)) = (((2 : ℝ) ^ z n : ℝ) : EReal) := fun n => by
    rw [htR, pow2_kexp _ (ht n).1, (ht n).2.2.1]
  unfold attnR attnP
  refine congrArg₂ Ideal.div ?_ ?_
  · refine Finset.sum_congr rfl fun n _ => ?_
    rw [hpow, htP, (ht n).2.2.1]
    refine congrArg (· * _) (Finset.sum_congr rfl fun j _ => congrArg (_ * ·) ?_)
    rw [hr, code, hp, (ht n).2.2.2, ← EReal.coe_mul]
  · simp only [hpow, hp, hr, sum_coe, ← EReal.coe_mul]
    refine congrArg (fun x : ℝ => (x : EReal)) ?_
    rw [Finset.sum_comm]
    refine Finset.sum_congr rfl fun n _ => ?_
    rw [← sum_by_eights, ← Finset.sum_mul]
    simp only [← Finset.sum_mul]
    rw [mul_assoc, ← zpow_add₀ (by norm_num), neg_add_cancel, zpow_zero, mul_one]

end

/-- The two rows agree on real scores and real nonnegative factors. -/
theorem attn_eq (s : Fin 4096 → EReal) (cf : Fin 32 → EReal) (v : Fin 4096 → EReal) (vs : Fin 32 → EReal)
    (hs : ∀ k, ∃ x : ℝ, s k = (x : EReal)) (hc : ∀ n, ∃ x : ℝ, 0 ≤ x ∧ cf n = (x : EReal)) : attnR s cf v vs = attnP s cf v vs := by
  choose σ hσ using hs
  choose c h0 hc using hc
  obtain rfl : s = fun k => (σ k : EReal) := funext hσ
  obtain rfl : cf = fun n => (c n : EReal) := funext hc
  exact attn_real σ c h0 v vs

end Cert.Spec

end
-- ==== Proof.Equation.lean ====
/- The reference's seven arrays are the kernel's, wherever every group's largest magnitude is below two to the 128. -/
module

public import proofs.«01_k».proof.Proof.KernelRun
public import proofs.«01_k».proof.Proof.RefAttn
public import proofs.«01_k».proof.Proof.AttnMath
public import proofs.«01_k».proof.Proof.Gen.ReferenceIdeal.Value

@[expose] public section

set_option maxRecDepth 16384

noncomputable section

namespace Cert.Equation

open Idealize.ShloMosaic Cert.KernelIdeal Cert.KernelIdeal.Val

/-- Every group of the queries, of the keys or values, is below two to the 128. -/
def Small0 (X : FVec Ideal S8x4096x1024 .bf16) : Prop := ∀ b n g, Spec.Small (top0 X b n g)
def Small1 (X : FVec Ideal S8x4096x256 .bf16) : Prop := ∀ b n g, Spec.Small (top1 X b n g)

theorem rtop16_eq (X : FVec Ideal S8x4096x1024 .bf16) (b : Fin 8) (n : Fin 32) (h : Fin 16) : ReferenceIdeal.Val.rtop16 X b n h = top0 X b n h :=
  congrArg (Finset.univ.sup ·) (funext fun _ => congrArg Spec.abs (congrArg X
    (congrArg₂ (ix3 b) (Fin.ext (by simp only []; omega)) (Fin.ext (by simp only []; omega)))))

theorem rtop4_eq (X : FVec Ideal S8x4096x256 .bf16) (b : Fin 8) (n : Fin 32) (h : Fin 4) : ReferenceIdeal.Val.rtop4 X b n h = top1 X b n h :=
  congrArg (Finset.univ.sup ·) (funext fun _ => congrArg Spec.abs (congrArg X
    (congrArg₂ (ix3 b) (Fin.ext (by simp only []; omega)) (Fin.ext (by simp only []; omega)))))

theorem kcode_eq (x a : EReal) (h : Spec.Small a) : Spec.kcode x a = Spec.code x a := by
  rw [Spec.kcode, Spec.code, Spec.pow2_neg_kexp a h]

/-- A query's code. -/
theorem code0_eq (X : FVec Ideal S8x4096x1024 .bf16) (hX : Small0 X) (b : Fin 8) (n : Fin 32) (j : Fin 128) (h : Fin 16) (d : Fin 64)
    (w : Fin 4096) (u : Fin 1024) (hw : w.val = 128 * n.val + j.val) (hu : u.val = 64 * h.val + d.val) :
    (ReferenceIdeal.Gen.k0_pay3 X : FVec Ideal ReferenceIdeal.S8x32x128x16x64 .fp8e4m3) (ix5 b n j h d) = kq0 X (ix3 b w u) := by
  refine (ReferenceIdeal.Val.code0 X b n j h d).trans ?_
  rw [rtop16_eq]
  refine Eq.trans ?_ (kcode_eq _ _ (hX _ _ _)).symm
  refine congrArg₂ Spec.code (congrArg X (congrArg₂ (ix3 b) (Fin.ext hw.symm) (Fin.ext hu.symm))) (top0_congr X rfl (Fin.ext ?_) (Fin.ext ?_))
  · show n.val = w.val / 128
    omega
  · show h.val = u.val / 64
    omega

/-- A key's code. -/
theorem code1_eq (X : FVec Ideal S8x4096x256 .bf16) (hX : Small1 X) (b : Fin 8) (n : Fin 32) (j : Fin 128) (h : Fin 4) (d : Fin 64)
    (w : Fin 4096) (u : Fin 256) (hw : w.val = 128 * n.val + j.val) (hu : u.val = 64 * h.val + d.val) :
    (ReferenceIdeal.Gen.k0_pay9 (ReferenceIdeal.Gen.k0_pay5 X) (ReferenceIdeal.Gen.k0_pay6 X) (ReferenceIdeal.Gen.k0_pay7 X)
      : FVec Ideal ReferenceIdeal.S8x32x128x4x64 .fp8e4m3) (ix5 b n j h d) = kq1 X (ix3 b w u) := by
  refine (ReferenceIdeal.Val.code1 X b n j h d).trans ?_
  rw [rtop4_eq]
  refine Eq.trans ?_ (kcode_eq _ _ (hX _ _ _)).symm
  refine congrArg₂ Spec.code (congrArg X (congrArg₂ (ix3 b) (Fin.ext hw.symm) (Fin.ext hu.symm))) (top1_congr X rfl (Fin.ext ?_) (Fin.ext ?_))
  · show n.val = w.val / 128
    omega
  · show h.val = u.val / 64
    omega

/-- A value's code. -/
theorem code2_eq (X : FVec Ideal S8x4096x256 .bf16) (hX : Small1 X) (b : Fin 8) (n : Fin 32) (j : Fin 128) (h : Fin 4) (d : Fin 64)
    (w : Fin 4096) (u : Fin 256) (hw : w.val = 128 * n.val + j.val) (hu : u.val = 64 * h.val + d.val) :
    (ReferenceIdeal.Gen.k0_pay15 (ReferenceIdeal.Gen.k0_pay14 X) (Scalar.ofBits .f32 0xC3E00000#32) (Scalar.ofBits .f32 0x43E00000#32)
      : FVec Ideal ReferenceIdeal.S8x32x128x4x64 .fp8e4m3) (ix5 b n j h d) = kq2 X (ix3 b w u) :=
  ((ReferenceIdeal.Val.code2 X b n j h d).trans (ReferenceIdeal.Val.code1 X b n j h d).symm).trans (code1_eq X hX b n j h d w u hw hu)

/-- The queries' scales. -/
theorem scale0_eq (X : FVec Ideal S8x4096x1024 .bf16) (hX : Small0 X) (b : Fin 8) (n : Fin 32) (h : Fin 16) :
    (ReferenceIdeal.Gen.k0_pay4 X : FVec Ideal ReferenceIdeal.S8x32x16 .f32) (ix3 b n h) = ks0 X (ix3 b n h) := by
  refine (ReferenceIdeal.Val.scale0 X b n h).trans ?_
  rw [rtop16_eq]
  exact (Spec.pow2_kexp _ (hX b n h)).symm

/-- The keys' scales. -/
theorem scale1_eq (X : FVec Ideal S8x4096x256 .bf16) (hX : Small1 X) (b : Fin 8) (n : Fin 32) (h : Fin 4) :
    (ReferenceIdeal.Gen.k0_pay10 (ReferenceIdeal.Gen.k0_pay6 X) (ReferenceIdeal.Gen.k0_pay7 X) : FVec Ideal ReferenceIdeal.S8x32x4 .f32) (ix3 b n h) = ks1 X (ix3 b n h) := by
  refine (ReferenceIdeal.Val.scale1 X b n h).trans ?_
  rw [rtop4_eq]
  exact (Spec.pow2_kexp _ (hX b n h)).symm

/-- The values' scales. -/
theorem scale2_eq (X : FVec Ideal S8x4096x256 .bf16) (hX : Small1 X) (b : Fin 8) (n : Fin 32) (h : Fin 4) :
    (ReferenceIdeal.Gen.k0_pay16 (ReferenceIdeal.Gen.k0_pay13 X) : FVec Ideal ReferenceIdeal.S8x32x4 .f32) (ix3 b n h) = ks2 X (ix3 b n h) :=
  ((ReferenceIdeal.Val.scale2 X b n h).trans (ReferenceIdeal.Val.scale1 X b n h).symm).trans (scale1_eq X hX b n h)

variable (X : FVec Ideal S8x4096x1024 .bf16) (K V : FVec Ideal S8x4096x256 .bf16) (hX : Small0 X) (hK : Small1 K) (hV : Small1 V)

include hX in
theorem G4_eq : ReferenceIdeal.Value.G4 (F := Ideal) X K V = kq0 X := by
  funext y
  idx_vars y
  refine (ReferenceIdeal.Val.cast0V y0 y1 (ReferenceIdeal.Gen.k0_pay27 X K V) y2).trans ?_
  rw [ReferenceIdeal.Val.pay27]
  exact code0_eq X hX _ _ _ _ _ _ _ (by simp only []; omega) (by simp only []; omega)

include hX in
theorem G5_eq : ReferenceIdeal.Value.G5 (F := Ideal) X K V = ks0 X := by
  funext y
  idx_vars y
  refine (congrFun (ReferenceIdeal.Val.pay28 X K V) _).trans ?_
  exact scale0_eq X hX y0 y1 y2

include hK in
theorem G6_eq : ReferenceIdeal.Value.G6 (F := Ideal) X K V = kq1 K := by
  funext y
  idx_vars y
  refine (ReferenceIdeal.Val.cast1V y0 y1 (ReferenceIdeal.Gen.k0_pay31 X K V) y2).trans ?_
  rw [ReferenceIdeal.Val.pay31]
  exact code1_eq K hK _ _ _ _ _ _ _ (by simp only []; omega) (by simp only []; omega)

include hK in
theorem G7_eq : ReferenceIdeal.Value.G7 (F := Ideal) X K V = ks1 K := by
  funext y
  idx_vars y
  refine (congrFun (ReferenceIdeal.Val.pay32 X K V) _).trans ?_
  exact scale1_eq K hK y0 y1 y2

include hV in
theorem G8_eq : ReferenceIdeal.Value.G8 (F := Ideal) X K V = kq2 V := by
  funext y
  idx_vars y
  refine (ReferenceIdeal.Val.cast1V y0 y1 (ReferenceIdeal.Gen.k0_pay34 X K V) y2).trans ?_
  rw [ReferenceIdeal.Val.pay34]
  exact code2_eq V hV _ _ _ _ _ _ _ (by simp only []; omega) (by simp only []; omega)

include hV in
theorem G9_eq : ReferenceIdeal.Value.G9 (F := Ideal) X K V = ks2 V := by
  funext y
  idx_vars y
  refine (congrFun (congrArg ReferenceIdeal.Gen.k0_pay16 (ReferenceIdeal.Val.pay33 X K V)) _).trans ?_
  exact scale2_eq V hV y0 y1 y2

/-! The attention. -/

/-- A code is a real number, whatever it was cut from. -/
theorem kcode_real (x a : EReal) : ∃ r : ℝ, Spec.kcode x a = (r : EReal) := by
  refine ⟨(Spec.kcode x a).toReal, (EReal.coe_toReal ?_ ?_).symm⟩
  · refine ne_of_lt (lt_of_le_of_lt (min_le_left _ _) ?_)
    rw [Spec.hi_eq]
    exact EReal.coe_lt_top _
  · refine ne_of_gt (lt_of_lt_of_le (b := Spec.lo) ?_ (le_min ?_ (le_max_left _ _)))
    · rw [Spec.lo_eq]
      exact EReal.bot_lt_coe _
    · rw [Spec.lo_eq, Spec.hi_eq]
      exact EReal.coe_le_coe_iff.mpr (by norm_num)

/-- A scale is a real number, and not negative. -/
theorem pow2_real (a : EReal) (h : Spec.Small a) : ∃ r : ℝ, 0 ≤ r ∧ Spec.pow2 (Spec.kexp a) = (r : EReal) := by
  obtain ⟨z, -, hz, -⟩ := Spec.fexp_cases a h
  exact ⟨(2 : ℝ) ^ z, by positivity, (Spec.pow2_kexp a h).trans hz⟩

theorem eighth : Ideal.ofBits .f32 0x3E000000#32 = (((1 / 8 : ℝ)) : EReal) := by
  simp [Ideal.ofBits, Ideal.ieee, -EReal.coe_mul]; norm_num

/-- A finite sum of products of reals is real. -/
theorem sum_real {κ : Type} [Fintype κ] (f g : κ → EReal) (hf : ∀ i, ∃ r : ℝ, f i = (r : EReal)) (hg : ∀ i, ∃ r : ℝ, g i = (r : EReal)) :
    ∃ r : ℝ, (∑ i, f i * g i) = (r : EReal) := by
  choose a ha using hf
  choose b hb using hg
  refine ⟨∑ i, a i * b i, ?_⟩
  rw [← Spec.sum_coe]
  exact Finset.sum_congr rfl fun i _ => by rw [ha, hb, EReal.coe_mul]

/-! The reference's codes and scales of the three arguments. -/

abbrev refQ : FVec Ideal ReferenceIdeal.S8x32x128x16x64 .fp8e4m3 := ReferenceIdeal.Gen.k0_pay3 X
abbrev refQs : FVec Ideal ReferenceIdeal.S8x32x16 .f32 := ReferenceIdeal.Gen.k0_pay4 X
abbrev refK : FVec Ideal ReferenceIdeal.S8x32x128x4x64 .fp8e4m3 := ReferenceIdeal.Gen.k0_pay9 (ReferenceIdeal.Gen.k0_pay5 K) (ReferenceIdeal.Gen.k0_pay6 K) (ReferenceIdeal.Gen.k0_pay7 K)
abbrev refKs : FVec Ideal ReferenceIdeal.S8x32x4 .f32 := ReferenceIdeal.Gen.k0_pay10 (ReferenceIdeal.Gen.k0_pay6 K) (ReferenceIdeal.Gen.k0_pay7 K)
abbrev refV : FVec Ideal ReferenceIdeal.S8x32x128x4x64 .fp8e4m3 :=
  ReferenceIdeal.Gen.k0_pay15 (ReferenceIdeal.Gen.k0_pay14 V) (Scalar.ofBits .f32 0xC3E00000#32) (Scalar.ofBits .f32 0x43E00000#32)

/-- The reference's first result, over the codes and scales. -/
theorem G3_def : ReferenceIdeal.Value.G3 (F := Ideal) X K V
    = (ReferenceIdeal.Gen.k0_pay23 (refV V) (ReferenceIdeal.Gen.k0_pay17 (ReferenceIdeal.Gen.k0_pay13 V))
      (ReferenceIdeal.Gen.k0_pay18 (refQ X) (refQs X) (refK K) (refKs K)) (ReferenceIdeal.Gen.k0_pay19 (refQ X) (refQs X) (refK K) (refKs K))
      (ReferenceIdeal.Gen.k0_pay20 (refQ X) (refQs X) (refK K) (refKs K)) (ReferenceIdeal.Gen.k0_pay21 (refQ X) (refQs X) (refK K) (refKs K))
      ReferenceIdeal.Gen.k0_pay22 : FVec Ideal ReferenceIdeal.S8x4096x1024 .bf16) := by
  unfold ReferenceIdeal.Value.G3
  rw [ReferenceIdeal.Val.pay27, ReferenceIdeal.Val.pay28, ReferenceIdeal.Val.pay31, ReferenceIdeal.Val.pay32, ReferenceIdeal.Val.pay33, ReferenceIdeal.Val.pay34]

/-! One row's scores, their factors, the values and the values' scales. -/

def rowS (b : Fin 8) (w : Fin 4096) (u : Fin 1024) (k : Fin 4096) : EReal :=
  ∑ d : Fin 64, kq1 K (ix3 b k (⟨u.val / 256 * 64 + d.val, by omega⟩ : Fin 256)) * kq0 X (ix3 b w (⟨u.val / 64 * 64 + d.val, by omega⟩ : Fin 1024))
def rowC (b : Fin 8) (w : Fin 4096) (u : Fin 1024) (n : Fin 32) : EReal :=
  (ks0 X (ix3 b (⟨w.val / 128, by omega⟩ : Fin 32) (⟨u.val / 64, by omega⟩ : Fin 16)) * ks1 K (ix3 b n (⟨u.val / 256, by omega⟩ : Fin 4))) * Ideal.ofBits .f32 0x3E000000#32
def rowV (b : Fin 8) (u : Fin 1024) (k : Fin 4096) : EReal := kq2 V (ix3 b k (⟨u.val / 256 * 64 + u.val % 64, by omega⟩ : Fin 256))
def rowVs (b : Fin 8) (u : Fin 1024) (n : Fin 32) : EReal := ks2 V (ix3 b n (⟨u.val / 256, by omega⟩ : Fin 4))

theorem ky_apply (b : Fin 8) (w : Fin 4096) (u : Fin 1024) : ky X K V (ix3 b w u) = Spec.attnR (rowS X K b w u) (rowC X K b w u) (rowV V b u) (rowVs V b u) := rfl

theorem rowS_real (b : Fin 8) (w : Fin 4096) (u : Fin 1024) (k : Fin 4096) : ∃ r : ℝ, rowS X K b w u k = (r : EReal) :=
  sum_real _ _ (fun _ => kcode_real _ _) fun _ => kcode_real _ _

include hX hK in
theorem rowC_real (b : Fin 8) (w : Fin 4096) (u : Fin 1024) (n : Fin 32) : ∃ r : ℝ, 0 ≤ r ∧ rowC X K b w u n = (r : EReal) := by
  obtain ⟨p, hp0, hp⟩ := pow2_real _ (hX b ⟨w.val / 128, by omega⟩ ⟨u.val / 64, by omega⟩)
  obtain ⟨q, hq0, hq⟩ := pow2_real _ (hK b n ⟨u.val / 256, by omega⟩)
  refine ⟨p * q * (1 / 8), by positivity, ?_⟩
  rw [EReal.coe_mul, EReal.coe_mul, ← eighth, ← hp, ← hq]
  rfl

include hX hK in
/-- The kernel's row of the attention is the plain formula's. -/
theorem row_eq (b : Fin 8) (w : Fin 4096) (u : Fin 1024) : ky X K V (ix3 b w u) = Spec.attnP (rowS X K b w u) (rowC X K b w u) (rowV V b u) (rowVs V b u) :=
  (ky_apply X K V b w u).trans (Spec.attn_eq _ _ _ _ (rowS_real X K b w u) (rowC_real X K hX hK b w u))

section
variable (b : Fin 8) (w : Fin 4096) (u : Fin 1024) (g r : Fin 4) (hg : g.val = u.val / 256) (hr : r.val = u.val / 64 % 4)

include hX hK hg hr in
theorem ref_scores (n : Fin 32) (j : Fin 128) : (∑ d : Fin 64, (refK K (ix5 b n j g d) : EReal)
      * refQ X (ix5 b ⟨w.val / 128, by omega⟩ ⟨w.val % 128, by omega⟩ ⟨g.val * 4 + r.val, by omega⟩ d)) = rowS X K b w u (Spec.key n j) := by
  refine Finset.sum_congr rfl fun d _ => congrArg₂ (fun a b : EReal => a * b) ?_ ?_
  · exact code1_eq K hK _ _ _ _ _ _ _ rfl (by simp only []; omega)
  · exact code0_eq X hX _ _ _ _ _ _ _ (by simp only []; omega) (by simp only []; omega)

include hX hK hg hr in
theorem ref_factors (n : Fin 32) : (refQs X (ix3 b ⟨w.val / 128, by omega⟩ ⟨g.val * 4 + r.val, by omega⟩) * refKs K (ix3 b n g)) * Ideal.ofBits .f32 0x3E000000#32
      = rowC X K b w u n := by
  refine congrArg (fun a : EReal => a * Ideal.ofBits .f32 0x3E000000#32) (congrArg₂ (fun a b : EReal => a * b) ?_ ?_)
  · refine (scale0_eq X hX _ _ _).trans (congrArg (fun h => ks0 X (ix3 b _ h)) (Fin.ext ?_))
    simp only []
    omega
  · exact (scale1_eq K hK _ _ _).trans (congrArg (fun h => ks1 K (ix3 b n h)) (Fin.ext hg))

include hV hg in
theorem ref_values (n : Fin 32) (j : Fin 128) : refV V (ix5 b n j g ⟨u.val % 64, Nat.mod_lt _ (by norm_num)⟩) = rowV V b u (Spec.key n j) :=
  code2_eq V hV _ _ _ _ _ _ _ rfl (by simp only []; omega)

include hV hg in
theorem ref_vscales (n : Fin 32) : (ReferenceIdeal.Gen.k0_pay17 (ReferenceIdeal.Gen.k0_pay13 V) : FVec Ideal ReferenceIdeal.S8x4x1x1x32x1 .f32) (ix6 b g 0 0 n 0) = rowVs V b u n :=
  (ReferenceIdeal.Val.kscaleV b g _ n).trans ((scale2_eq V hV _ _ _).trans (congrArg (fun h => ks2 V (ix3 b n h)) (Fin.ext hg)))

include hX hK hV hg hr in
/-- The reference's row is the plain formula's. -/
theorem ref_row : ReferenceIdeal.Value.G3 (F := Ideal) X K V (ix3 b w u) = Spec.attnP (rowS X K b w u) (rowC X K b w u) (rowV V b u) (rowVs V b u) := by
  refine (congrFun (G3_def X K V) _).trans ?_
  have hs := ref_scores X K hX hK b w u g r hg hr
  have hc := ref_factors X K hX hK b w u g r hg hr
  have h18 := ReferenceIdeal.Val.pay18_apply b g r w (refQ X) (refQs X) (refK K) (refKs K) (rowS X K b w u) (rowC X K b w u) hs hc
  have h19 := ReferenceIdeal.Val.pay19_apply b g r w (refQ X) (refQs X) (refK K) (refKs K) (rowS X K b w u) (rowC X K b w u) hs hc
  have h20 := ReferenceIdeal.Val.pay20_apply b g r w (refQ X) (refQs X) (refK K) (refKs K) (rowS X K b w u) (rowC X K b w u) hs hc
  have h21 : ∀ n, ReferenceIdeal.Gen.k0_pay21 (refQ X) (refQs X) (refK K) (refKs K) (ix6 b g r w n 0) = Spec.scale (Spec.ptopP (rowS X K b w u) (rowC X K b w u) n) :=
    fun n => (ReferenceIdeal.Val.exp2V b g r w _ n).trans (congrArg Ideal.exp2 (h20 n))
  refine (ReferenceIdeal.Val.pay23_apply b g r w (refV V) (ReferenceIdeal.Gen.k0_pay17 (ReferenceIdeal.Gen.k0_pay13 V)) _ _ _ _ u hg hr).trans ?_
  refine congrArg₂ Ideal.div (Finset.sum_congr rfl fun n _ => congrArg₂ (fun a b : EReal => a * b)
    (Finset.sum_congr rfl fun j _ => congrArg₂ (fun a b : EReal => a * b) ?_ ?_) (congrArg₂ (fun a b : EReal => a * b) (h21 n) ?_)) h19
  · exact ref_values V hV b u g hg n j
  · exact ReferenceIdeal.Val.code_of (h18 n j) (h20 n)
  · exact ref_vscales V hV b u g hg n

end

include hX hK hV in
theorem G3_eq : ReferenceIdeal.Value.G3 (F := Ideal) X K V = ky X K V := by
  funext y
  idx_vars y
  exact (ref_row X K V hX hK hV y0 y1 y2 ⟨y2.val / 256, by omega⟩ ⟨y2.val / 64 % 4, by omega⟩ rfl rfl).trans (row_eq X K V hX hK y0 y1 y2).symm

end Cert.Equation

end
-- ==== Proof.Finite.lean ====
/- What the precondition says of the groups: every group's largest magnitude is below two to the 128. -/
module

public import proofs.«01_k».proof.Defs
public import proofs.«01_k».proof.Proof.Gen.Pre_finite_inputs
public import proofs.«01_k».proof.Proof.Equation
public import Idealize.ShloMosaic.Lib.ReduceAll

@[expose] public section

set_option maxRecDepth 16384

noncomputable section

namespace Cert.Equation

open Idealize.ShloMosaic Cert.KernelIdeal Cert.KernelIdeal.Val

/-- The largest finite bfloat16. -/
theorem bound_lt : Ideal.ofBits .bf16 0x7F7F#16 < (((2 : ℝ) ^ (128 : ℤ) : ℝ) : EReal) := by
  have h : Ideal.ofBits .bf16 0x7F7F#16 = (((255 : ℝ) * 2 ^ (120 : ℤ) : ℝ) : EReal) := by
    simp [Ideal.ofBits, Ideal.ieee, -EReal.coe_mul]
  rw [h]
  exact EReal.coe_lt_coe_iff.mpr (by norm_num)

/-- One element's test. -/
theorem test_lt {s : Shape} (h : (⟨0, ![]⟩ : Shape).BroadcastsInDim s (![] : Fin 0 → Fin s.rank)) (x : FVec Ideal s .bf16) (i : s.Idx)
    (e : (cmpf .ole (Host.absf x) (broadcastInDim s ![] h (constant (⟨0, ![]⟩ : Shape) .bf16 0x7F7F#16)) : IVec s 1) i = 1#1) :
    Spec.abs (x i) < (((2 : ℝ) ^ (128 : ℤ) : ℝ) : EReal) := by
  refine lt_of_le_of_lt ?_ bound_lt
  have e' : Ideal.cmp .ole (Spec.abs (x i)) (Ideal.ofBits .bf16 0x7F7F#16) = 1#1 := e
  by_contra hc
  rw [show Ideal.cmp .ole (Spec.abs (x i)) (Ideal.ofBits .bf16 0x7F7F#16) = 0#1 by simp [Ideal.cmp, hc]] at e'
  exact absurd e' (by decide)

instance : Subsingleton Cert.Pre_finite_inputs.S_.Idx := ⟨fun a b => funext fun i => i.elim0⟩

variable (X : FVec Ideal S8x4096x1024 .bf16) (K V : FVec Ideal S8x4096x256 .bf16)

theorem pre_all (h : Cert.Pre_finite_inputs.fn (F := Ideal) X K V = fun _ => 1#1) :
    (∀ i, Spec.abs (X i) < (((2 : ℝ) ^ (128 : ℤ) : ℝ) : EReal)) ∧ (∀ i, Spec.abs (K i) < (((2 : ℝ) ^ (128 : ℤ) : ℝ) : EReal))
      ∧ ∀ i, Spec.abs (V i) < (((2 : ℝ) ^ (128 : ℤ) : ℝ) : EReal) := by
  have h0 := congrFun h ix0
  obtain ⟨h12, h3⟩ := IntOp.andi_eq_one.1 h0
  obtain ⟨h1, h2⟩ := IntOp.andi_eq_one.1 h12
  exact ⟨fun i => test_lt _ X i (Host.reduce_andi_all _ _ _ _ _ h1 i), fun i => test_lt _ K i (Host.reduce_andi_all _ _ _ _ _ h2 i),
    fun i => test_lt _ V i (Host.reduce_andi_all _ _ _ _ _ h3 i)⟩

theorem sup_lt {κ : Type} [Fintype κ] (f : κ → EReal) (h : ∀ i, f i < (((2 : ℝ) ^ (128 : ℤ) : ℝ) : EReal)) : Spec.Small (Finset.univ.sup f) :=
  (Finset.sup_lt_iff (EReal.bot_lt_coe _)).mpr fun i _ => h i

theorem pre_small (h : Cert.Pre_finite_inputs.fn (F := Ideal) X K V = fun _ => 1#1) : Small0 X ∧ Small1 K ∧ Small1 V := by
  obtain ⟨h1, h2, h3⟩ := pre_all X K V h
  exact ⟨fun b n g => sup_lt _ fun p => h1 _, fun b n g => sup_lt _ fun p => h2 _, fun b n g => sup_lt _ fun p => h3 _⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite_inputs
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.KernelRun
public import proofs.«01_k».proof.Proof.Equation
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem

/-- The seven results, on finite inputs: the kernel's run and the reference's run end at the same arrays. -/
theorem algebraic : algebraic_KernelIdeal_ReferenceIdeal_pre_finite_inputs := by
  intro m g m' g' hpre harg
  refine ⟨fun c => KernelIdeal.Val.ky (KernelIdeal.Val.argX m c) (KernelIdeal.Val.argK m c) (KernelIdeal.Val.argV m c),
    fun c => KernelIdeal.Val.kq0 (KernelIdeal.Val.argX m c), fun c => KernelIdeal.Val.ks0 (KernelIdeal.Val.argX m c),
    fun c => KernelIdeal.Val.kq1 (KernelIdeal.Val.argK m c), fun c => KernelIdeal.Val.ks1 (KernelIdeal.Val.argK m c),
    fun c => KernelIdeal.Val.kq2 (KernelIdeal.Val.argV m c), fun c => KernelIdeal.Val.ks2 (KernelIdeal.Val.argV m c),
    KernelIdeal.Val.run m g, ?_⟩
  refine (θ_run _ _ _).mono (fun r h c => ?_) (ReferenceIdeal.Value.run m' g')
  obtain ⟨h0, h1, h2, h3, h4, h5, h6, ha⟩ := h c
  obtain ⟨e0, e1, e2⟩ := harg c
  obtain ⟨hX, hK, hV⟩ := Equation.pre_small _ _ _ (hpre c)
  rw [e0, e1, e2] at h0 h1 h2 h3 h4 h5 h6
  exact ⟨h0.trans (Equation.G3_eq _ _ _ hX hK hV), h1.trans (Equation.G4_eq _ _ _ hX), h2.trans (Equation.G5_eq _ _ _ hX),
    h3.trans (Equation.G6_eq _ _ _ hK), h4.trans (Equation.G7_eq _ _ _ hK), h5.trans (Equation.G8_eq _ _ _ hV),
    h6.trans (Equation.G9_eq _ _ _ hV), ha⟩

theorem claim : Cert.Claim := ⟨Cert.Kernel.Gen.facts, Cert.KernelIdeal.Gen.facts, Cert.ReferenceIdeal.Gen.facts, Cert.Reference.Gen.facts,
  Cert.Pre_finite_inputs.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  fun m ρ _ => Cert.Reference.Gen.frame m ρ,
  IdealRules.named_const.statement Cert.KernelIdeal.κ "log2e" .f32 0x3FB8AA3B#32 _ rfl,
  IdealRules.named_const.statement Cert.ReferenceIdeal.κ "ln2" .f32 0x3F317218#32 _ rfl,
  algebraic⟩

end Cert.Proof

end
